-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8)
      ∧ r.2.mem ((c.tc : Thread Cert.Dense.nD Cert.Dense.τ).loc Cert.Dense.main_arg9) = m ((c.tc : Thread Cert.Dense.nD Cert.Dense.τ).loc Cert.Dense.main_arg9))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
      ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7)
      ∧ r.2.mem ((c.tc : Thread Cert.DenseReferenceIdeal.nD Cert.DenseReferenceIdeal.τ).loc Cert.DenseReferenceIdeal.main_arg8) = m ((c.tc : Thread Cert.DenseReferenceIdeal.nD Cert.DenseReferenceIdeal.τ).loc Cert.DenseReferenceIdeal.main_arg8)
      ∧ r.2.mem ((c.tc : Thread Cert.DenseReferenceIdeal.nD Cert.DenseReferenceIdeal.τ).loc Cert.DenseReferenceIdeal.main_arg9) = m ((c.tc : Thread Cert.DenseReferenceIdeal.nD Cert.DenseReferenceIdeal.τ).loc Cert.DenseReferenceIdeal.main_arg9))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v43)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v43) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v150) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)
      ∧ m' ((c.tc : Thread Cert.DenseReferenceIdeal.nD Cert.DenseReferenceIdeal.τ).loc Cert.DenseReferenceIdeal.main_arg8) = m ((c.tc : Thread Cert.DenseIdeal.nD Cert.DenseIdeal.τ).loc Cert.DenseIdeal.main_arg8)
      ∧ m' ((c.tc : Thread Cert.DenseReferenceIdeal.nD Cert.DenseReferenceIdeal.τ).loc Cert.DenseReferenceIdeal.main_arg9) = m ((c.tc : Thread Cert.DenseIdeal.nD Cert.DenseIdeal.τ).loc Cert.DenseIdeal.main_arg9)) →
    ∃ (v0 : (c : Dev Cert.DenseIdeal.nD) → Buf (Elt Ideal) ((c.tc : Thread Cert.DenseIdeal.nD Cert.DenseIdeal.τ).loc Cert.DenseIdeal.main_v25_0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v25_0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
          ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v20) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7)
          ∧ r.2.mem ((c.tc : Thread Cert.DenseReferenceIdeal.nD Cert.DenseReferenceIdeal.τ).loc Cert.DenseReferenceIdeal.main_arg8) = m' ((c.tc : Thread Cert.DenseReferenceIdeal.nD Cert.DenseReferenceIdeal.τ).loc Cert.DenseReferenceIdeal.main_arg8)
          ∧ r.2.mem ((c.tc : Thread Cert.DenseReferenceIdeal.nD Cert.DenseReferenceIdeal.τ).loc Cert.DenseReferenceIdeal.main_arg9) = m' ((c.tc : Thread Cert.DenseReferenceIdeal.nD Cert.DenseReferenceIdeal.τ).loc Cert.DenseReferenceIdeal.main_arg9))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hDense : Cert.Dense.Facts) (hDenseIdeal : Cert.DenseIdeal.Facts) (hDenseReferenceIdeal : Cert.DenseReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Dense (hDense := hDense)
    ∧ quiescent_DenseIdeal (hDenseIdeal := hDenseIdeal)
    ∧ quiescent_DenseReferenceIdeal (hDenseReferenceIdeal := hDenseReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsReferenceIdeal (hExpertsIdeal := hExpertsIdeal) (hExpertsReferenceIdeal := hExpertsReferenceIdeal)
    ∧ preserves_Dense_DenseIdeal
    ∧ algebraic_DenseIdeal_DenseReferenceIdeal (hDenseIdeal := hDenseIdeal) (hDenseReferenceIdeal := hDenseReferenceIdeal)
-- ==== Pre_finite_scores.lean ====
abbrev S4x4096x1024 : Shape := ⟨3, ![4, 4096, 1024]⟩
abbrev S16x15x31 : Shape := ⟨3, ![16, 15, 31]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S16x15x31 : S_.BroadcastsInDim S16x15x31 (![] : Fin 0 → Fin S16x15x31.rank)
  reducesTo_S16x15x31_S_d0_1_2 : S16x15x31.ReducesTo [0, 1, 2] S_

variable [Facts]

def fn_part1 {F : FTy → Type} [FloatOps F] (main_arg3 : FVec F S16x15x31 .f32) (main_v12 : IVec S_ 1) (main_v14 : IVec S16x15x31 1) (main_v15 : FVec F S16x15x31 .f32) : IVec S_ 1 :=
  let main_v16 : IVec S16x15x31 1 := cmpf .olt main_arg3 main_v15
  let main_v17 : IVec S16x15x31 1 := andi main_v14 main_v16
  let main_c_6 : IVec S_ 1 := constantI S_ 1 1#1
  let main_v18 : IVec S_ 1 := (fun x v => Host.reduce IntOp.andi x v reducesTo_S16x15x31_S_d0_1_2 h_S_) main_v17 main_c_6
  let main_v19 : IVec S_ 1 := andi main_v12 main_v18
  main_v19

def fn {F : FTy → Type} [FloatOps F] (main_arg0 : FVec F S4x4096x1024 .f32) (main_arg1 : FVec F S4x4096x1024 .f32) (main_arg2 : FVec F S4x4096x1024 .f32) (main_arg3 : FVec F S16x15x31 .f32) : IVec S_ 1 :=
  let main_cst : FVec F S_ .f32 := constant S_ .f32 0xFF800000#32
  let main_v0 : FVec F S4x4096x1024 .f32 := broadcastInDim S4x4096x1024 ![] bcast_S_S4x4096x1024 main_cst
  let main_v1 : IVec S4x4096x1024 1 := cmpf .ogt main_arg0 main_v0
  let main_cst_0 : FVec F S_ .f32 := constant S_ .f32 0x7F800000#32
  let main_v2 : FVec F S4x4096x1024 .f32 := broadcastInDim S4x4096x1024 ![] bcast_S_S4x4096x1024 main_cst_0
  let main_v3 : IVec S4x4096x1024 1 := cmpf .olt main_arg0 main_v2
  let main_v4 : IVec S4x4096x1024 1 := andi main_v1 main_v3
  let main_c : IVec S_ 1 := constantI S_ 1 1#1
  let main_v5 : IVec S_ 1 := (fun x v => Host.reduce IntOp.andi x v reducesTo_S4x4096x1024_S_d0_1_2 h_S_) main_v4 main_c
  let main_cst_1 : FVec F S_ .f32 := constant S_ .f32 0xFF800000#32
  let main_v6 : FVec F S4x4096x1024 .f32 := broadcastInDim S4x4096x1024 ![] bcast_S_S4x4096x1024 main_cst_1
  let main_v7 : IVec S4x4096x1024 1 := cmpf .ogt main_arg1 main_v6
  let main_cst_2 : FVec F S_ .f32 := constant S_ .f32 0x7F800000#32
  let main_v8 : FVec F S4x4096x1024 .f32 := broadcastInDim S4x4096x1024 ![] bcast_S_S4x4096x1024 main_cst_2
  let main_v9 : IVec S4x4096x1024 1 := cmpf .olt main_arg1 main_v8
  let main_v10 : IVec S4x4096x1024 1 := andi main_v7 main_v9
  let main_c_3 : IVec S_ 1 := constantI S_ 1 1#1
  let main_v11 : IVec S_ 1 := (fun x v => Host.reduce IntOp.andi x v reducesTo_S4x4096x1024_S_d0_1_2 h_S_) main_v10 main_c_3
  let main_v12 : IVec S_ 1 := andi main_v5 main_v11
  let main_cst_4 : FVec F S_ .f32 := constant S_ .f32 0xFF800000#32
  let main_v13 : FVec F S16x15x31 .f32 := broadcastInDim S16x15x31 ![] bcast_S_S16x15x31 main_cst_4
  let main_v14 : IVec S16x15x31 1 := cmpf .ogt main_arg3 main_v13
  let main_cst_5 : FVec F S_ .f32 := constant S_ .f32 0x7F800000#32
  let main_v15 : FVec F S16x15x31 .f32 := broadcastInDim S16x15x31 ![] bcast_S_S16x15x31 main_cst_5
  fn_part1 (F := F) main_arg3 main_v12 main_v14 main_v15
-- ==== Kernel.lean ====
abbrev S4x4096x1024 : Shape := ⟨3, ![4, 4096, 1024]⟩
abbrev S16x15x31 : Shape := ⟨3, ![16, 15, 31]⟩
abbrev S_ : Shape := ⟨0, ![]⟩
abbrev S4x4096x3072 : Shape := ⟨3, ![4, 4096, 3072]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x128 : Shape := ⟨2, ![64, 128]⟩
abbrev S16x14x31 : Shape := ⟨3, ![16, 14, 31]⟩
abbrev S16x14x62 : Shape := ⟨3, ![16, 14, 62]⟩
abbrev S8x2x14x62 : Shape := ⟨4, ![8, 2, 14, 62]⟩
abbrev S64x128x1 : Shape := ⟨3, ![64, 128, 1]⟩
abbrev S8x2x14x64x128 : Shape := ⟨5, ![8, 2, 14, 64, 128]⟩
abbrev S8x14x2x64x128 : Shape := ⟨5, ![8, 14, 2, 64, 128]⟩
abbrev S1x64x1x64 : Shape := ⟨4, ![1, 64, 1, 64]⟩
abbrev S1x64x2x64 : Shape := ⟨4, ![1, 64, 2, 64]⟩
abbrev S8x14x128x128 : Shape := ⟨4, ![8, 14, 128, 128]⟩
abbrev S1x4096x128 : Shape := ⟨3, ![1, 4096, 128]⟩
abbrev S1x14x128x128 : Shape := ⟨4, ![1, 14, 128, 128]⟩
abbrev S1x128 : Shape := ⟨2, ![1, 128]⟩
abbrev S1x64x128 : Shape := ⟨3, ![1, 64, 128]⟩
abbrev S128x128 : Shape := ⟨2, ![128, 128]⟩
abbrev S1x512x128 : Shape := ⟨3, ![1, 512, 128]⟩
abbrev S512x128 : Shape := ⟨2, ![512, 128]⟩
abbrev S128x512 : Shape := ⟨2, ![128, 512]⟩
abbrev S1x1x128x128 : Shape := ⟨4, ![1, 1, 128, 128]⟩
abbrev S128 : Shape := ⟨1, ![128]⟩
abbrev S128x1 : Shape := ⟨2, ![128, 1]⟩
abbrev S512x256 : Shape := ⟨2, ![512, 256]⟩
abbrev S128x256 : Shape := ⟨2, ![128, 256]⟩

abbrev nBuf : Space → Nat
  | .hbm => 83
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S16x15x31, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x1024, .f32⟩
  | .hbm, ⟨11, _⟩ => ⟨S4x4096x1024, .f32⟩
  | .hbm, ⟨12, _⟩ => ⟨S4x4096x3072, .f32⟩
  | .hbm, ⟨13, _⟩ => ⟨S4x4096x3072, .bf16⟩
  | .hbm, ⟨14, _⟩ => ⟨S64, .i32⟩
  | .hbm, ⟨15, _⟩ => ⟨S64x1, .i32⟩
  | .hbm, ⟨16, _⟩ => ⟨S64, .i32⟩
  | .hbm, ⟨17, _⟩ => ⟨S1x64, .i32⟩
  | .hbm, ⟨18, _⟩ => ⟨S_, .i32⟩
  | .hbm, ⟨19, _⟩ => ⟨S64x1, .i32⟩
  | .hbm, ⟨20, _⟩ => ⟨S64x1, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S_, .i32⟩
  | .hbm, ⟨27, _⟩ => ⟨S64x1, .i32⟩
  | .hbm, ⟨28, _⟩ => ⟨S64x1, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S64x64, .i1⟩
  | .hbm, ⟨39, _⟩ => ⟨S64x64, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S_, .i32⟩
  | .hbm, ⟨48, _⟩ => ⟨S64x64, .i32⟩
  | .hbm, ⟨49, _⟩ => ⟨S64x64, .i32⟩
  | .hbm, ⟨50, _⟩ => ⟨S_, .i32⟩
  | .hbm, ⟨51, _⟩ => ⟨S64x64, .i32⟩
  | .hbm, ⟨52, _⟩ => ⟨S64x64, .i32⟩
  | .hbm, ⟨53, _⟩ => ⟨S_, .i32⟩
  | .hbm, ⟨54, _⟩ => ⟨S64x64, .i32⟩
  | .hbm, ⟨55, _⟩ => ⟨S64x64, .i32⟩
  | .hbm, ⟨56, _⟩ => ⟨S_, .i32⟩
  | .hbm, ⟨57, _⟩ => ⟨S64x64, .i32⟩
  | .hbm, ⟨58, _⟩ => ⟨S64x64, .i32⟩
  | .hbm, ⟨59, _⟩ => ⟨S64x128, .i32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16x15x31, .f32⟩
  | .hbm, ⟨65, _⟩ => ⟨S16x15x31, .f32⟩
  | .hbm, ⟨66, _⟩ => ⟨S16x14x31, .f32⟩
  | .hbm, ⟨67, _⟩ => ⟨S16x14x31, .f32⟩
  | .hbm, ⟨68, _⟩ => ⟨S16x14x62, .f32⟩
  | .hbm, ⟨69, _⟩ => ⟨S8x2x14x62, .f32⟩
  | .hbm, ⟨70, _⟩ => ⟨S64x128x1, .i32⟩
  | .hbm, ⟨71, _⟩ => ⟨S8x2x14x64x128, .f32⟩
  | .hbm, ⟨72, _⟩ => ⟨S8x14x2x64x128, .f32⟩
  | .hbm, ⟨73, _⟩ => ⟨S1x64x1x64, .i1⟩
  | .hbm, ⟨74, _⟩ => ⟨S1x64x2x64, .i1⟩
  | .hbm, ⟨75, _⟩ => ⟨S64x128, .i1⟩
  | .hbm, ⟨76, _⟩ => ⟨S_, .f32⟩
  | .hbm, ⟨77, _⟩ => ⟨S_, .f32⟩
  | .hbm, ⟨78, _⟩ => ⟨S8x14x2x64x128, .i1⟩
  | .hbm, ⟨79, _⟩ => ⟨S8x14x2x64x128, .f32⟩
  | .hbm, ⟨80, _⟩ => ⟨S8x14x2x64x128, .f32⟩
  | .hbm, ⟨81, _⟩ => ⟨S8x14x128x128, .f32⟩
  | .hbm, ⟨82, _⟩ => ⟨S4x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x14x128x128, .f32⟩
  | .local _ .vmem, ⟨7, _⟩ => ⟨S1x14x128x128, .f32⟩
  | .local _ .vmem, ⟨8, _⟩ => ⟨S1x4096x128, .bf16⟩
  | .local _ .vmem, ⟨9, _⟩ => ⟨S1x4096x128, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_v29 : Ref sig .tc := ⟨.hbm, 54, rfl⟩
abbrev main_v30 : Ref sig .tc := ⟨.hbm, 55, rfl⟩
abbrev main_c_9 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_10 : Ref sig .tc := ⟨.hbm, 60, rfl⟩
abbrev main_v34 : Ref sig .tc := ⟨.hbm, 61, rfl⟩
abbrev main_cst_11 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call2_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_12 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_2 : BitVec 32 := 8#32
  let v7 : BitVec 32 := Scalar.muli arg7 c8_i32_2
  let c0_i32_3 : BitVec 32 := 0#32
  let v8 : BitVec 32 := Scalar.addi v7 c0_i32_3
  let c64_i32_5 : BitVec 32 := 64#32
  let v12 : BitVec 32 := Scalar.muli v8 c64_i32_5
  v12
def k0_mult2 (k0_t1 : Fin k0_t1_loop.trips) : BitVec 32 :=
  let c56_i32 : BitVec 32 := 56#32
  let c0_i32_4 : BitVec 32 := 0#32
  let c0_i32 : BitVec 32 := 0#32
  let c1_i32 : BitVec 32 := 1#32
  let arg7 : BitVec 32 := Scf.iv c0_i32 c1_i32 k0_t1
  let c8_i32_2 : BitVec 32 := 8#32
  let v7 : BitVec 32 := Scalar.muli arg7 c8_i32_2
  let c0_i32_3 : BitVec 32 := 0#32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let c64_i32_6 : BitVec 32 := 64#32
  let v14 : BitVec 32 := Scalar.muli v11 c64_i32_6
  v14
def k0_off1 (k0_t1 : Fin k0_t1_loop.trips) (c0_i32_3 : BitVec 32) : Fin 3 → Nat :=
  let c0 : Index := 0#32
  let c0_i32 : BitVec 32 := 0#32
  let c1_i32 : BitVec 32 := 1#32
  let arg7 : BitVec 32 := Scf.iv c0_i32 c1_i32 k0_t1
  let c8_i32_2 : BitVec 32 := 8#32
  let v7 : BitVec 32 := Scalar.muli arg7 c8_i32_2
  let v8 : BitVec 32 := Scalar.addi v7 c0_i32_3
  let c64_i32_5 : BitVec 32 := 64#32
  let v12 : BitVec 32 := Scalar.muli v8 c64_i32_5
  let v13 : BitVec 32 := v12
  let v16 : Index := Scalar.indexCast v13
  let c0_7 : Index := 0#32
  ![0, v16.toNat, 0]
def k0_off2 (k0_t1 : Fin k0_t1_loop.trips) (c0_i32_3 : BitVec 32) : Fin 3 → Nat :=
  let c0_8 : Index := 0#32
  let c56_i32 : BitVec 32 := 56#32
  let c0_i32_4 : BitVec 32 := 0#32
  let c0_i32 : BitVec 32 := 0#32
  let c1_i32 : BitVec 32 := 1#32
  let arg7 : BitVec 32 := Scf.iv c0_i32 c1_i32 k0_t1
  let c8_i32_2 : BitVec 32 := 8#32
  let v7 : BitVec 32 := Scalar.muli arg7 c8_i32_2
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let c64_i32_6 : BitVec 32 := 64#32
  let v14 : BitVec 32 := Scalar.muli v11 c64_i32_6
  let v15 : BitVec 32 := v14
  let v27 : Index := Scalar.indexCast v15
  let c0_9 : Index := 0#32
  ![0, v27.toNat, 0]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_13 : BitVec 32 := 8#32
  let v36 : BitVec 32 := Scalar.muli arg7 c8_i32_13
  let c1_i32_14 : BitVec 32 := 1#32
  let v37 : BitVec 32 := Scalar.addi v36 c1_i32_14
  let c64_i32_18 : BitVec 32 := 64#32
  let v41 : BitVec 32 := Scalar.muli v37 c64_i32_18
  v41
def k0_mult4 (k0_t1 : Fin k0_t1_loop.trips) : BitVec 32 :=
  let c56_i32_17 : BitVec 32 := 56#32
  let c0_i32_16 : BitVec 32 := 0#32
  let c0_i32 : BitVec 32 := 0#32
  let c1_i32 : BitVec 32 := 1#32
  let arg7 : BitVec 32 := Scf.iv c0_i32 c1_i32 k0_t1
  let c8_i32_13 : BitVec 32 := 8#32
  let v36 : BitVec 32 := Scalar.muli arg7 c8_i32_13
  let c1_i32_14 : BitVec 32 := 1#32
  let v37 : BitVec 32 := Scalar.addi v36 c1_i32_14
  let c4_i32_15 : BitVec 32 := 4#32
  let v38 : BitVec 32 := Scalar.subi v37 c4_i32_15
  let v39 : BitVec 32 := Scalar.maxsi c0_i32_16 v38
  let v40 : BitVec 32 := Scalar.minsi c56_i32_17 v39
  let c64_i32_19 : BitVec 32 := 64#32
  let v43 : BitVec 32 := Scalar.muli v40 c64_i32_19
  v43
def k0_mult5 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_29 : BitVec 32 := 8#32
  let v65 : BitVec 32 := Scalar.muli arg7 c8_i32_29
  let c2_i32 : BitVec 32 := 2#32
  let v66 : BitVec 32 := Scalar.addi v65 c2_i32
  let c64_i32_33 : BitVec 32 := 64#32
  let v70 : BitVec 32 := Scalar.muli v66 c64_i32_33
  v70
def k0_mult6 (k0_t1 : Fin k0_t1_loop.trips) : BitVec 32 :=
  let c56_i32_32 : BitVec 32 := 56#32
  let c0_i32_31 : BitVec 32 := 0#32
  let c0_i32 : BitVec 32 := 0#32
  let c1_i32 : BitVec 32 := 1#32
  let arg7 : BitVec 32 := Scf.iv c0_i32 c1_i32 k0_t1
  let c8_i32_29 : BitVec 32 := 8#32
  let v65 : BitVec 32 := Scalar.muli arg7 c8_i32_29
  let c2_i32 : BitVec 32 := 2#32
  let v66 : BitVec 32 := Scalar.addi v65 c2_i32
  let c4_i32_30 : BitVec 32 := 4#32
  let v67 : BitVec 32 := Scalar.subi v66 c4_i32_30
  let v68 : BitVec 32 := Scalar.maxsi c0_i32_31 v67
  let v69 : BitVec 32 := Scalar.minsi c56_i32_32 v68
  let c64_i32_34 : BitVec 32 := 64#32
  let v72 : BitVec 32 := Scalar.muli v69 c64_i32_34
  v72
def k0_mult7 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_44 : BitVec 32 := 8#32
  let v94 : BitVec 32 := Scalar.muli arg7 c8_i32_44
  let c3_i32 : BitVec 32 := 3#32
  let v95 : BitVec 32 := Scalar.addi v94 c3_i32
  let c64_i32_48 : BitVec 32 := 64#32
  let v99 : BitVec 32 := Scalar.muli v95 c64_i32_48
  v99
def k0_mult8 (k0_t1 : Fin k0_t1_loop.trips) : BitVec 32 :=
  let c56_i32_47 : BitVec 32 := 56#32
  let c0_i32_46 : BitVec 32 := 0#32
  let c0_i32 : BitVec 32 := 0#32
  let c1_i32 : BitVec 32 := 1#32
  let arg7 : BitVec 32 := Scf.iv c0_i32 c1_i32 k0_t1
  let c8_i32_44 : BitVec 32 := 8#32
  let v94 : BitVec 32 := Scalar.muli arg7 c8_i32_44
  let c3_i32 : BitVec 32 := 3#32
  let v95 : BitVec 32 := Scalar.addi v94 c3_i32
  let c4_i32_45 : BitVec 32 := 4#32
  let v96 : BitVec 32 := Scalar.subi v95 c4_i32_45
  let v97 : BitVec 32 := Scalar.maxsi c0_i32_46 v96
  let v98 : BitVec 32 := Scalar.minsi c56_i32_47 v97
  let c64_i32_49 : BitVec 32 := 64#32
  let v101 : BitVec 32 := Scalar.muli v98 c64_i32_49
  v101
def k0_mult9 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_59 : BitVec 32 := 8#32
  let v123 : BitVec 32 := Scalar.muli arg7 c8_i32_59
  let c4_i32_60 : BitVec 32 := 4#32
  let v124 : BitVec 32 := Scalar.addi v123 c4_i32_60
  let c64_i32_64 : BitVec 32 := 64#32
  let v128 : BitVec 32 := Scalar.muli v124 c64_i32_64
  v128
def k0_mult10 (k0_t1 : Fin k0_t1_loop.trips) : BitVec 32 :=
  let c56_i32_63 : BitVec 32 := 56#32
  let c0_i32_62 : BitVec 32 := 0#32
  let c0_i32 : BitVec 32 := 0#32
  let c1_i32 : BitVec 32 := 1#32
  let arg7 : BitVec 32 := Scf.iv c0_i32 c1_i32 k0_t1
  let c8_i32_59 : BitVec 32 := 8#32
  let v123 : BitVec 32 := Scalar.muli arg7 c8_i32_59
  let c4_i32_60 : BitVec 32 := 4#32
  let v124 : BitVec 32 := Scalar.addi v123 c4_i32_60
  let c4_i32_61 : BitVec 32 := 4#32
  let v125 : BitVec 32 := Scalar.subi v124 c4_i32_61
  let v126 : BitVec 32 := Scalar.maxsi c0_i32_62 v125
  let v127 : BitVec 32 := Scalar.minsi c56_i32_63 v126
  let c64_i32_65 : BitVec 32 := 64#32
  let v130 : BitVec 32 := Scalar.muli v127 c64_i32_65
  v130
def k0_mult11 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_75 : BitVec 32 := 8#32
  let v152 : BitVec 32 := Scalar.muli arg7 c8_i32_75
  let c5_i32 : BitVec 32 := 5#32
  let v153 : BitVec 32 := Scalar.addi v152 c5_i32
  let c64_i32_79 : BitVec 32 := 64#32
  let v157 : BitVec 32 := Scalar.muli v153 c64_i32_79
  v157
def k0_mult12 (k0_t1 : Fin k0_t1_loop.trips) : BitVec 32 :=
  let c56_i32_78 : BitVec 32 := 56#32
  let c0_i32_77 : BitVec 32 := 0#32
  let c0_i32 : BitVec 32 := 0#32
  let c1_i32 : BitVec 32 := 1#32
  let arg7 : BitVec 32 := Scf.iv c0_i32 c1_i32 k0_t1
  let c8_i32_75 : BitVec 32 := 8#32
  let v152 : BitVec 32 := Scalar.muli arg7 c8_i32_75
  let c5_i32 : BitVec 32 := 5#32
  let v153 : BitVec 32 := Scalar.addi v152 c5_i32
  let c4_i32_76 : BitVec 32 := 4#32
  let v154 : BitVec 32 := Scalar.subi v153 c4_i32_76
  let v155 : BitVec 32 := Scalar.maxsi c0_i32_77 v154
  let v156 : BitVec 32 := Scalar.minsi c56_i32_78 v155
  let c64_i32_80 : BitVec 32 := 64#32
  let v159 : BitVec 32 := Scalar.muli v156 c64_i32_80
  v159
def k0_mult13 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_90 : BitVec 32 := 8#32
  let v181 : BitVec 32 := Scalar.muli arg7 c8_i32_90
  let c6_i32 : BitVec 32 := 6#32
  let v182 : BitVec 32 := Scalar.addi v181 c6_i32
  let c64_i32_94 : BitVec 32 := 64#32
  let v186 : BitVec 32 := Scalar.muli v182 c64_i32_94
  v186
def k0_mult14 (k0_t1 : Fin k0_t1_loop.trips) : BitVec 32 :=
  let c56_i32_93 : BitVec 32 := 56#32
  let c0_i32_92 : BitVec 32 := 0#32
  let c0_i32 : BitVec 32 := 0#32
  let c1_i32 : BitVec 32 := 1#32
  let arg7 : BitVec 32 := Scf.iv c0_i32 c1_i32 k0_t1
  let c8_i32_90 : BitVec 32 := 8#32
  let v181 : BitVec 32 := Scalar.muli arg7 c8_i32_90
  let c6_i32 : BitVec 32 := 6#32
  let v182 : BitVec 32 := Scalar.addi v181 c6_i32
  let c4_i32_91 : BitVec 32 := 4#32
  let v183 : BitVec 32 := Scalar.subi v182 c4_i32_91
  let v184 : BitVec 32 := Scalar.maxsi c0_i32_92 v183
  let v185 : BitVec 32 := Scalar.minsi c56_i32_93 v184
  let c64_i32_95 : BitVec 32 := 64#32
  let v188 : BitVec 32 := Scalar.muli v185 c64_i32_95
  v188
def k0_mult15 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_105 : BitVec 32 := 8#32
  let v210 : BitVec 32 := Scalar.muli arg7 c8_i32_105
  let c7_i32_106 : BitVec 32 := 7#32
  let v211 : BitVec 32 := Scalar.addi v210 c7_i32_106
  let c64_i32_110 : BitVec 32 := 64#32
  let v215 : BitVec 32 := Scalar.muli v211 c64_i32_110
  v215
def k0_mult16 (k0_t1 : Fin k0_t1_loop.trips) : BitVec 32 :=
  let c56_i32_109 : BitVec 32 := 56#32
  let c0_i32_108 : BitVec 32 := 0#32
  let c0_i32 : BitVec 32 := 0#32
  let c1_i32 : BitVec 32 := 1#32
  let arg7 : BitVec 32 := Scf.iv c0_i32 c1_i32 k0_t1
  let c8_i32_105 : BitVec 32 := 8#32
  let v210 : BitVec 32 := Scalar.muli arg7 c8_i32_105
  let c7_i32_106 : BitVec 32 := 7#32
  let v211 : BitVec 32 := Scalar.addi v210 c7_i32_106
  let c4_i32_107 : BitVec 32 := 4#32
  let v212 : BitVec 32 := Scalar.subi v211 c4_i32_107
  let v213 : BitVec 32 := Scalar.maxsi c0_i32_108 v212
  let v214 : BitVec 32 := Scalar.minsi c56_i32_109 v213
  let c64_i32_111 : BitVec 32 := 64#32
  let v217 : BitVec 32 := Scalar.muli v214 c64_i32_111
  v217
def k0_off3 (k0_t1 : Fin k0_t1_loop.trips) (c0_i32_3 : BitVec 32) (c0_i32_121 : BitVec 32) : Fin 4 → Nat :=
  let c0_122 : Index := 0#32
  let c56_i32 : BitVec 32 := 56#32
  let c0_i32_4 : BitVec 32 := 0#32
  let c0_i32 : BitVec 32 := 0#32
  let c1_i32 : BitVec 32 := 1#32
  let arg7 : BitVec 32 := Scf.iv c0_i32 c1_i32 k0_t1
  let c8_i32_2 : BitVec 32 := 8#32
  let v7 : BitVec 32 := Scalar.muli arg7 c8_i32_2
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let v31 : BitVec 32 := Scalar.subi v11 v8
  let c7_i32 : BitVec 32 := 7#32
  let v32 : BitVec 32 := Scalar.addi v31 c7_i32
  let v239 : BitVec 32 := Scalar.addi v32 c0_i32_121
  let v240 : Index := Scalar.indexCast v239
  let c0_123 : Index := 0#32
  let c0_124 : Index := 0#32
  ![0, v240.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x14x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x4096x1024 : Shape := ⟨3, ![4, 4096, 1024]⟩
abbrev S16x15x31 : Shape := ⟨3, ![16, 15, 31]⟩
abbrev S4x4096x16x64 : Shape := ⟨4, ![4, 4096, 16, 64]⟩
abbrev S4x16x4096x64 : Shape := ⟨4, ![4, 16, 4096, 64]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S4096x4096 : Shape := ⟨2, ![4096, 4096]⟩
abbrev S16x465 : Shape := ⟨2, ![16, 465]⟩
abbrev S4096x4096x1 : Shape := ⟨3, ![4096, 4096, 1]⟩
abbrev S16x4096x4096 : Shape := ⟨3, ![16, 4096, 4096]⟩
abbrev S4x16x4096x4096 : Shape := ⟨4, ![4, 16, 4096, 4096]⟩
abbrev S1x16x4096x4096 : Shape := ⟨4, ![1, 16, 4096, 4096]⟩
abbrev S4x16x4096 : Shape := ⟨3, ![4, 16, 4096]⟩
abbrev S4x16x4096x1 : Shape := ⟨4, ![4, 16, 4096, 1]⟩

abbrev nBuf : Space → Nat
  | .hbm => 120
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S16x15x31, .f32⟩
  | .hbm, ⟨4, _⟩ => ⟨S4x4096x16x64, .f32⟩
  | .hbm, ⟨5, _⟩ => ⟨S4x16x4096x64, .f32⟩
  | .hbm, ⟨6, _⟩ => ⟨S4x4096x16x64, .f32⟩
  | .hbm, ⟨7, _⟩ => ⟨S4x16x4096x64, .f32⟩
  | .hbm, ⟨8, _⟩ => ⟨S4x4096x16x64, .f32⟩
  | .hbm, ⟨9, _⟩ => ⟨S4x16x4096x64, .f32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S1x64, .i32⟩
  | .hbm, ⟨22, _⟩ => ⟨S64x64, .i32⟩
  | .hbm, ⟨23, _⟩ => ⟨S64x64, .i32⟩
  | .hbm, ⟨24, _⟩ => ⟨S64x64, .i1⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S1x64, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S64x64, .i1⟩
  | .hbm, ⟨33, _⟩ => ⟨S64x1, .i32⟩
  | .hbm, ⟨34, _⟩ => ⟨S1x64, .i32⟩
  | .hbm, ⟨35, _⟩ => ⟨S64x64, .i32⟩
  | .hbm, ⟨36, _⟩ => ⟨S64x64, .i32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i32⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S_, .i32⟩
  | .hbm, ⟨49, _⟩ => ⟨S64, .i32⟩
  | .hbm, ⟨50, _⟩ => ⟨S64, .i32⟩
  | .hbm, ⟨51, _⟩ => ⟨S64x1, .i32⟩
  | .hbm, ⟨52, _⟩ => ⟨S1x64, .i32⟩
  | .hbm, ⟨53, _⟩ => ⟨S64x64, .i32⟩
  | .hbm, ⟨54, _⟩ => ⟨S64x64, .i32⟩
  | .hbm, ⟨55, _⟩ => ⟨S64x64, .i1⟩
  | .hbm, ⟨56, _⟩ => ⟨S_, .i32⟩
  | .hbm, ⟨57, _⟩ => ⟨S64x1, .i32⟩
  | .hbm, ⟨58, _⟩ => ⟨S64x1, .i32⟩
  | .hbm, ⟨59, _⟩ => ⟨S1x64, .i32⟩
  | .hbm, ⟨60, _⟩ => ⟨S64x64, .i32⟩
  | .hbm, ⟨61, _⟩ => ⟨S64x64, .i32⟩
  | .hbm, ⟨62, _⟩ => ⟨S64x64, .i1⟩
  | .hbm, ⟨63, _⟩ => ⟨S64x64, .i1⟩
  | .hbm, ⟨64, _⟩ => ⟨S64x1, .i32⟩
  | .hbm, ⟨65, _⟩ => ⟨S1x64, .i32⟩
  | .hbm, ⟨66, _⟩ => ⟨S64x64, .i32⟩
  | .hbm, ⟨67, _⟩ => ⟨S64x64, .i32⟩
  | .hbm, ⟨68, _⟩ => ⟨S64x64, .i32⟩
  | .hbm, ⟨69, _⟩ => ⟨S_, .i32⟩
  | .hbm, ⟨70, _⟩ => ⟨S64x64, .i32⟩
  | .hbm, ⟨71, _⟩ => ⟨S64x64, .i32⟩
  | .hbm, ⟨72, _⟩ => ⟨S64x1x64x1, .i1⟩
  | .hbm, ⟨73, _⟩ => ⟨S1x64x1x64, .i1⟩
  | .hbm, ⟨74, _⟩ => ⟨S64x64x64x64, .i1⟩
  | .hbm, ⟨75, _⟩ => ⟨S64x64x64x64, .i1⟩
  | .hbm, ⟨76, _⟩ => ⟨S64x64x64x64, .i1⟩
  | .hbm, ⟨77, _⟩ => ⟨S4096x4096, .i1⟩
  | .hbm, ⟨78, _⟩ => ⟨S64x1x64x1, .i32⟩
  | .hbm, ⟨79, _⟩ => ⟨S_, .i32⟩
  | .hbm, ⟨80, _⟩ => ⟨S64x1x64x1, .i32⟩
  | .hbm, ⟨81, _⟩ => ⟨S64x1x64x1, .i32⟩
  | .hbm, ⟨82, _⟩ => ⟨S1x64x1x64, .i32⟩
  | .hbm, ⟨83, _⟩ => ⟨S64x64x64x64, .i32⟩
  | .hbm, ⟨84, _⟩ => ⟨S64x64x64x64, .i32⟩
  | .hbm, ⟨85, _⟩ => ⟨S64x64x64x64, .i32⟩
  | .hbm, ⟨86, _⟩ => ⟨S4096x4096, .i32⟩
  | .hbm, ⟨87, _⟩ => ⟨S16x465, .f32⟩
  | .hbm, ⟨88, _⟩ => ⟨S4096x4096x1, .i32⟩
  | .hbm, ⟨89, _⟩ => ⟨S16x4096x4096, .f32⟩
  | .hbm, ⟨90, _⟩ => ⟨S4x16x4096x4096, .f32⟩
  | .hbm, ⟨91, _⟩ => ⟨S_, .f32⟩
  | .hbm, ⟨92, _⟩ => ⟨S4x16x4096x4096, .f32⟩
  | .hbm, ⟨93, _⟩ => ⟨S4x16x4096x4096, .f32⟩
  | .hbm, ⟨94, _⟩ => ⟨S1x16x4096x4096, .f32⟩
  | .hbm, ⟨95, _⟩ => ⟨S4x16x4096x4096, .f32⟩
  | .hbm, ⟨96, _⟩ => ⟨S4x16x4096x4096, .f32⟩
  | .hbm, ⟨97, _⟩ => ⟨S_, .f32⟩
  | .hbm, ⟨98, _⟩ => ⟨S_, .f32⟩
  | .hbm, ⟨99, _⟩ => ⟨S4x16x4096x4096, .i1⟩
  | .hbm, ⟨100, _⟩ => ⟨S4x16x4096x4096, .f32⟩
  | .hbm, ⟨101, _⟩ => ⟨S4x16x4096x4096, .f32⟩
  | .hbm, ⟨102, _⟩ => ⟨S_, .f32⟩
  | .hbm, ⟨103, _⟩ => ⟨S4x16x4096, .f32⟩
  | .hbm, ⟨104, _⟩ => ⟨S_, .f32⟩
  | .hbm, ⟨105, _⟩ => ⟨S4x16x4096, .f32⟩
  | .hbm, ⟨106, _⟩ => ⟨S4x16x4096, .f32⟩
  | .hbm, ⟨107, _⟩ => ⟨S4x16x4096x1, .f32⟩
  | .hbm, ⟨108, _⟩ => ⟨S4x16x4096x4096, .f32⟩
  | .hbm, ⟨109, _⟩ => ⟨S4x16x4096x4096, .f32⟩
  | .hbm, ⟨110, _⟩ => ⟨S4x16x4096x4096, .f32⟩
  | .hbm, ⟨111, _⟩ => ⟨S_, .f32⟩
  | .hbm, ⟨112, _⟩ => ⟨S4x16x4096, .f32⟩
  | .hbm, ⟨113, _⟩ => ⟨S4x16x4096x1, .f32⟩
  | .hbm, ⟨114, _⟩ => ⟨S4x16x4096x4096, .f32⟩
  | .hbm, ⟨115, _⟩ => ⟨S4x16x4096x4096, .f32⟩
  | .hbm, ⟨116, _⟩ => ⟨S4x16x4096x64, .f32⟩
  | .hbm, ⟨117, _⟩ => ⟨S4x4096x16x64, .f32⟩
  | .hbm, ⟨118, _⟩ => ⟨S4x4096x1024, .f32⟩
  | .hbm, ⟨119, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_4 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_c_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_c_9 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_call0_v0 : Ref sig .tc := ⟨.hbm, 88, rfl⟩
abbrev main_v73 : Ref sig .tc := ⟨.hbm, 89, rfl⟩
abbrev main_v74 : Ref sig .tc := ⟨.hbm, 90, rfl⟩
abbrev main_cst : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v80 : Ref sig .tc := ⟨.hbm, 101, rfl⟩
abbrev main_cst_11 : Ref sig .tc := ⟨.hbm, 102, rfl⟩
abbrev main_v81 : Ref sig .tc := ⟨.hbm, 103, rfl⟩
abbrev main_cst_12 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_13 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩

abbrev nD : Nat := 1
abbrev τ : Topo := Topo.v7x

variable {F : FTy → Type} [FloatOps F]
-- ==== Experts.lean ====
abbrev S32x8 : Shape := ⟨2, ![32, 8]⟩
abbrev S36352x1024 : Shape := ⟨2, ![36352, 1024]⟩
abbrev S36352 : Shape := ⟨1, ![36352]⟩
abbrev S8x1024x3584 : Shape := ⟨3, ![8, 1024, 3584]⟩
abbrev S8x3584x1024 : Shape := ⟨3, ![8, 3584, 1024]⟩
abbrev S_ : Shape := ⟨0, ![]⟩
abbrev S1x8 : Shape := ⟨2, ![1, 8]⟩
abbrev S33x8 : Shape := ⟨2, ![33, 8]⟩
abbrev S8 : Shape := ⟨1, ![8]⟩
abbrev S1 : Shape := ⟨1, ![1]⟩
abbrev S71 : Shape := ⟨1, ![71]⟩
abbrev S71x1 : Shape := ⟨2, ![71, 1]⟩
abbrev S71x8 : Shape := ⟨2, ![71, 8]⟩
abbrev S36352x1 : Shape := ⟨2, ![36352, 1]⟩
abbrev S36352x128 : Shape := ⟨2, ![36352, 128]⟩
abbrev S512x1024 : Shape := ⟨2, ![512, 1024]⟩
abbrev S512x128 : Shape := ⟨2, ![512, 128]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩
abbrev S512x1 : Shape := ⟨2, ![512, 1]⟩

abbrev nBuf : Space → Nat
  | .hbm => 90
  | .vmem => 13
  | .smem => 2
  | _ => 0

abbrev bufTy : (tb : Table) → Fin (tcTables nBuf tb) → BufTy
  | .hbm, ⟨0, _⟩ => ⟨S32x8, .f32⟩
  | .hbm, ⟨1, _⟩ => ⟨S36352x1024, .f32⟩
  | .hbm, ⟨2, _⟩ => ⟨S36352, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S32x8, .i32⟩
  | .hbm, ⟨7, _⟩ => ⟨S_, .i32⟩
  | .hbm, ⟨8, _⟩ => ⟨S1x8, .i32⟩
  | .hbm, ⟨9, _⟩ => ⟨S_, .i32⟩
  | .hbm, ⟨10, _⟩ => ⟨S_, .i32⟩
  | .hbm, ⟨11, _⟩ => ⟨S32x8, .i32⟩
  | .hbm, ⟨12, _⟩ => ⟨S33x8, .i32⟩
  | .hbm, ⟨13, _⟩ => ⟨S1x8, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i1⟩
  | .hbm, ⟨29, _⟩ => ⟨S8, .i32⟩
  | .hbm, ⟨30, _⟩ => ⟨S8, .i32⟩
  | .hbm, ⟨31, _⟩ => ⟨S_, .i32⟩
  | .hbm, ⟨32, _⟩ => ⟨S8, .i32⟩
  | .hbm, ⟨33, _⟩ => ⟨S8, .i1⟩
  | .hbm, ⟨34, _⟩ => ⟨S8, .i1⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S8, .i32⟩
  | .hbm, ⟨39, _⟩ => ⟨S_, .i32⟩
  | .hbm, ⟨40, _⟩ => ⟨S8, .i32⟩
  | .hbm, ⟨41, _⟩ => ⟨S8, .i32⟩
  | .hbm, ⟨42, _⟩ => ⟨S_, .i32⟩
  | .hbm, ⟨43, _⟩ => ⟨S_, .i32⟩
  | .hbm, ⟨44, _⟩ => ⟨S8, .i32⟩
  | .hbm, ⟨45, _⟩ => ⟨S1, .i32⟩
  | .hbm, ⟨46, _⟩ => ⟨S_, .i32⟩
  | .hbm, ⟨47, _⟩ => ⟨S71, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S71, .i32⟩
  | .hbm, ⟨62, _⟩ => ⟨S71, .i1⟩
  | .hbm, ⟨63, _⟩ => ⟨S_, .i32⟩
  | .hbm, ⟨64, _⟩ => ⟨S_, .i32⟩
  | .hbm, ⟨65, _⟩ => ⟨S71, .i32⟩
  | .hbm, ⟨66, _⟩ => ⟨S71, .i32⟩
  | .hbm, ⟨67, _⟩ => ⟨S_, .i32⟩
  | .hbm, ⟨68, _⟩ => ⟨S71, .i32⟩
  | .hbm, ⟨69, _⟩ => ⟨S71, .i32⟩
  | .hbm, ⟨70, _⟩ => ⟨S_, .i32⟩
  | .hbm, ⟨71, _⟩ => ⟨S71, .i32⟩
  | .hbm, ⟨72, _⟩ => ⟨S71, .i32⟩
  | .hbm, ⟨73, _⟩ => ⟨S71x1, .i32⟩
  | .hbm, ⟨74, _⟩ => ⟨S1x8, .i32⟩
  | .hbm, ⟨75, _⟩ => ⟨S71x8, .i32⟩
  | .hbm, ⟨76, _⟩ => ⟨S71x8, .i32⟩
  | .hbm, ⟨77, _⟩ => ⟨S71x8, .i1⟩
  | .hbm, ⟨78, _⟩ => ⟨S71x8, .i32⟩
  | .hbm, ⟨79, _⟩ => ⟨S_, .i32⟩
  | .hbm, ⟨80, _⟩ => ⟨S71, .i32⟩
  | .hbm, ⟨81, _⟩ => ⟨S_, .i32⟩
  | .hbm, ⟨82, _⟩ => ⟨S71, .i32⟩
  | .hbm, ⟨83, _⟩ => ⟨S36352x1, .f32⟩
  | .hbm, ⟨84, _⟩ => ⟨S36352x128, .f32⟩
  | .hbm, ⟨85, _⟩ => ⟨S36352x1024, .bf16⟩
  | .hbm, ⟨86, _⟩ => ⟨S8x1024x3584, .bf16⟩
  | .hbm, ⟨87, _⟩ => ⟨S8x1024x3584, .bf16⟩
  | .hbm, ⟨88, _⟩ => ⟨S8x3584x1024, .bf16⟩
  | .hbm, ⟨89, _⟩ => ⟨S36352x1024, .bf16⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1x1024x1792, .bf16⟩
  | .local _ .vmem, ⟨5, _⟩ => ⟨S1x1024x1792, .bf16⟩
  | .local _ .vmem, ⟨6, _⟩ => ⟨S1x1024x1792, .bf16⟩
  | .local _ .vmem, ⟨7, _⟩ => ⟨S1x1024x1792, .bf16⟩
  | .local _ .vmem, ⟨8, _⟩ => ⟨S1x1792x1024, .bf16⟩
  | .local _ .vmem, ⟨9, _⟩ => ⟨S1x1792x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .smem, ⟨0, _⟩ => ⟨S71, .i32⟩
  | .local _ .smem, ⟨1, _⟩ => ⟨S71, .i32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_call0_call0_c : Ref sig .tc := ⟨.hbm, 9, rfl⟩
abbrev main_call0_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v10 : Ref sig .tc := ⟨.hbm, 38, rfl⟩
abbrev main_c_3 : Ref sig .tc := ⟨.hbm, 39, rfl⟩
abbrev main_v11 : Ref sig .tc := ⟨.hbm, 40, rfl⟩
abbrev main_v12 : Ref sig .tc := ⟨.hbm, 41, rfl⟩
abbrev main_call2_call0_c : Ref sig .tc := ⟨.hbm, 42, rfl⟩
abbrev main_call2_call0_v0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c_4 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_c : Ref sig .tc := ⟨.hbm, 55, rfl⟩
abbrev main_call3_v6 : Ref sig .tc := ⟨.hbm, 56, rfl⟩
abbrev main_call3_v7 : Ref sig .tc := ⟨.hbm, 57, rfl⟩
abbrev main_call3_c_0 : Ref sig .tc := ⟨.hbm, 58, rfl⟩
abbrev main_call3_v8 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_c_5 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_c_6 : Ref sig .tc := ⟨.hbm, 67, rfl⟩
abbrev main_v24 : Ref sig .tc := ⟨.hbm, 68, rfl⟩
abbrev main_v25 : Ref sig .tc := ⟨.hbm, 69, rfl⟩
abbrev main_c_7 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_c_8 : Ref sig .tc := ⟨.hbm, 79, rfl⟩
abbrev main_v34 : Ref sig .tc := ⟨.hbm, 80, rfl⟩
abbrev main_c_9 : Ref sig .tc := ⟨.hbm, 81, rfl⟩
abbrev main_v35 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v36 : Ref sig .tc := ⟨.smem, 0, rfl⟩
abbrev main_v20 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![71, 2], ![false, false]⟩

abbrev pre0 : Pipeline.Prefetch sig := ⟨2, ![main_v36.idx, main_v20.idx], fun | 0 => main_v36.names | 1 => main_v20.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v0 : BitVec 1 := Scalar.cmpi .eq arg1 c1_i32
  let v9 : BitVec 32 := Scalar.extui v0
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S71) ![v0.toNat] S1.size (k0_off1_inb i)) numel1_S1
  let v2 : Index := Scalar.indexCast arg0
  let v3 : BitVec 32 := pf.at 1 (Rect.unit (s := S71) ![v2.toNat] S1.size (k0_off1_inb i)) numel1_S1
  let c1_i32 : BitVec 32 := 1#32
  let v4 : BitVec 1 := Scalar.cmpi .eq v3 c1_i32
  let c1_i32_0 : BitVec 32 := 1#32
  let v5 : BitVec 32 := Scalar.select v4 arg1 c1_i32_0
  let c0_i32 : BitVec 32 := 0#32
  let c0_i32_1 : BitVec 32 := 0#32
  ![v1.toNat, c0_i32.toNat, v5.toNat]

def cc0_transform_3 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S71) ![v0.toNat] S1.size (k0_off1_inb i)) numel1_S1
  let v2 : Index := Scalar.indexCast arg0
  let v3 : BitVec 32 := pf.at 1 (Rect.unit (s := S71) ![v2.toNat] S1.size (k0_off1_inb i)) numel1_S1
  let c1_i32 : BitVec 32 := 1#32
  let v4 : BitVec 1 := Scalar.cmpi .eq v3 c1_i32
  let c1_i32_0 : BitVec 32 := 1#32
  let v5 : BitVec 32 := Scalar.select v4 arg1 c1_i32_0
  let c0_i32 : BitVec 32 := 0#32
  let c0_i32_1 : BitVec 32 := 0#32
  ![v1.toNat, c0_i32.toNat, v5.toNat]

def cc0_transform_4 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S71) ![v0.toNat] S1.size (k0_off1_inb i)) numel1_S1
  let v2 : Index := Scalar.indexCast arg0
  let v3 : BitVec 32 := pf.at 1 (Rect.unit (s := S71) ![v2.toNat] S1.size (k0_off1_inb i)) numel1_S1
  let c1_i32 : BitVec 32 := 1#32
  let v4 : BitVec 1 := Scalar.cmpi .eq v3 c1_i32
  let c1_i32_0 : BitVec 32 := 1#32
  let v5 : BitVec 32 := Scalar.select v4 arg1 c1_i32_0
  let c0_i32 : BitVec 32 := 0#32
  let c0_i32_1 : BitVec 32 := 0#32
  ![v1.toNat, v5.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1792x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ExpertsReferenceIdeal.lean ====
abbrev S32x8 : Shape := ⟨2, ![32, 8]⟩
abbrev S36352x1024 : Shape := ⟨2, ![36352, 1024]⟩
abbrev S36352 : Shape := ⟨1, ![36352]⟩
abbrev S8x1024x3584 : Shape := ⟨3, ![8, 1024, 3584]⟩
abbrev S8x3584x1024 : Shape := ⟨3, ![8, 3584, 1024]⟩
abbrev S_ : Shape := ⟨0, ![]⟩
abbrev S8 : Shape := ⟨1, ![8]⟩
abbrev S36352x1 : Shape := ⟨2, ![36352, 1]⟩
abbrev S1x8 : Shape := ⟨2, ![1, 8]⟩
abbrev S36352x8 : Shape := ⟨2, ![36352, 8]⟩
abbrev S1 : Shape := ⟨1, ![1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S36352x3584 : Shape := ⟨2, ![36352, 3584]⟩

abbrev nBuf : Space → Nat
  | .hbm => 252
  | .vmem => 0
  | .smem => 0
  | _ => 0

abbrev hbmTy0_0 (i : Nat) : BufTy := match i % 128 with
  | 0 => ⟨S32x8, .f32⟩
  | 1 => ⟨S36352x1024, .f32⟩
  | 2 => ⟨S36352, .f32⟩
  | 3 => ⟨S8x1024x3584, .f32⟩
  | 4 => ⟨S8x1024x3584, .f32⟩
  | 5 => ⟨S8x3584x1024, .f32⟩
  | 6 => ⟨S32x8, .i32⟩
  | 7 => ⟨S_, .i32⟩
  | 8 => ⟨S8, .i32⟩
  | 9 => ⟨S_, .i32⟩
  | 10 => ⟨S8, .i32⟩
  | 11 => ⟨S8, .i32⟩
  | 12 => ⟨S_, .i32⟩
  | 13 => ⟨S_, .i32⟩
  | 14 => ⟨S8, .i32⟩
  | 15 => ⟨S8, .i32⟩
  | 16 => ⟨S8, .i32⟩
  | 17 => ⟨S_, .i32⟩
  | 18 => ⟨S8, .i32⟩
  | 19 => ⟨S8, .i1⟩
  | 20 => ⟨S8, .i32⟩
  | 21 => ⟨S8, .i32⟩
  | 22 => ⟨S_, .i32⟩
  | 23 => ⟨S8, .i32⟩
  | 24 => ⟨S8, .i1⟩
  | 25 => ⟨S8, .i1⟩
  | 26 => ⟨S_, .i32⟩
  | 27 => ⟨S8, .i32⟩
  | 28 => ⟨S8, .i32⟩
  | 29 => ⟨S8, .i32⟩
  | 30 => ⟨S_, .i32⟩
  | 31 => ⟨S8, .i32⟩
  | 32 => ⟨S8, .i32⟩
  | 33 => ⟨S_, .i32⟩
  | 34 => ⟨S_, .i32⟩
  | 35 => ⟨S8, .i32⟩
  | 36 => ⟨S36352, .i32⟩
  | 37 => ⟨S36352x1, .i32⟩
  | 38 => ⟨S1x8, .i32⟩
  | 39 => ⟨S36352x8, .i32⟩
  | 40 => ⟨S36352x8, .i32⟩
  | 41 => ⟨S36352x8, .i1⟩
  | 42 => ⟨S36352x8, .i32⟩
  | 43 => ⟨S_, .i32⟩
  | 44 => ⟨S36352, .i32⟩
  | 45 => ⟨S1, .i32⟩
  | 46 => ⟨S_, .i32⟩
  | 47 => ⟨S36352, .i32⟩
  | 48 => ⟨S36352, .i1⟩
  | 49 => ⟨S_, .i32⟩
  | 50 => ⟨S_, .i32⟩
  | 51 => ⟨S36352, .i32⟩
  | 52 => ⟨S36352, .i32⟩
  | 53 => ⟨S36352x1, .i32⟩
  | 54 => ⟨S8, .i32⟩
  | 55 => ⟨S1x8, .i32⟩
  | 56 => ⟨S36352x8, .i32⟩
  | 57 => ⟨S36352x8, .i32⟩
  | 58 => ⟨S36352x8, .i1⟩
  | 59 => ⟨S36352x1, .f32⟩
  | 60 => ⟨S_, .f32⟩
  | 61 => ⟨S_, .f32⟩
  | 62 => ⟨S36352x8, .f32⟩
  | 63 => ⟨S36352x8, .f32⟩
  | 64 => ⟨S36352x8, .f32⟩
  | 65 => ⟨S_, .f32⟩
  | 66 => ⟨S36352x1024, .f32⟩
  | 67 => ⟨S36352x1, .f32⟩
  | 68 => ⟨S1x1024x3584, .f32⟩
  | 69 => ⟨S1024x3584, .f32⟩
  | 70 => ⟨S1x1024x3584, .f32⟩
  | 71 => ⟨S1024x3584, .f32⟩
  | 72 => ⟨S1x3584x1024, .f32⟩
  | 73 => ⟨S3584x1024, .f32⟩
  | 74 => ⟨S36352x3584, .f32⟩
  | 75 => ⟨S36352x3584, .f32⟩
  | 76 => ⟨S36352x3584, .f32⟩
  | 77 => ⟨S_, .f32⟩
  | 78 => ⟨S36352x3584, .f32⟩
  | 79 => ⟨S36352x3584, .f32⟩
  | 80 => ⟨S_, .f32⟩
  | 81 => ⟨S36352x3584, .f32⟩
  | 82 => ⟨S36352x3584, .f32⟩
  | 83 => ⟨S36352x3584, .f32⟩
  | 84 => ⟨S36352x3584, .f32⟩
  | 85 => ⟨S36352x3584, .f32⟩
  | 86 => ⟨S36352x1024, .f32⟩
  | 87 => ⟨S36352x1024, .f32⟩
  | 88 => ⟨S36352x1024, .f32⟩
  | 89 => ⟨S36352x1024, .f32⟩
  | 90 => ⟨S36352x1, .f32⟩
  | 91 => ⟨S1x1024x3584, .f32⟩
  | 92 => ⟨S1024x3584, .f32⟩
  | 93 => ⟨S1x1024x3584, .f32⟩
  | 94 => ⟨S1024x3584, .f32⟩
  | 95 => ⟨S1x3584x1024, .f32⟩
  | 96 => ⟨S3584x1024, .f32⟩
  | 97 => ⟨S36352x3584, .f32⟩
  | 98 => ⟨S36352x3584, .f32⟩
  | 99 => ⟨S36352x3584, .f32⟩
  | 100 => ⟨S_, .f32⟩
  | 101 => ⟨S36352x3584, .f32⟩
  | 102 => ⟨S36352x3584, .f32⟩
  | 103 => ⟨S_, .f32⟩
  | 104 => ⟨S36352x3584, .f32⟩
  | 105 => ⟨S36352x3584, .f32⟩
  | 106 => ⟨S36352x3584, .f32⟩
  | 107 => ⟨S36352x3584, .f32⟩
  | 108 => ⟨S36352x3584, .f32⟩
  | 109 => ⟨S36352x1024, .f32⟩
  | 110 => ⟨S36352x1024, .f32⟩
  | 111 => ⟨S36352x1024, .f32⟩
  | 112 => ⟨S36352x1024, .f32⟩
  | 113 => ⟨S36352x1, .f32⟩
  | 114 => ⟨S1x1024x3584, .f32⟩
  | 115 => ⟨S1024x3584, .f32⟩
  | 116 => ⟨S1x1024x3584, .f32⟩
  | 117 => ⟨S1024x3584, .f32⟩
  | 118 => ⟨S1x3584x1024, .f32⟩
  | 119 => ⟨S3584x1024, .f32⟩
  | 120 => ⟨S36352x3584, .f32⟩
  | 121 => ⟨S36352x3584, .f32⟩
  | 122 => ⟨S36352x3584, .f32⟩
  | 123 => ⟨S_, .f32⟩
  | 124 => ⟨S36352x3584, .f32⟩
  | 125 => ⟨S36352x3584, .f32⟩
  | 126 => ⟨S_, .f32⟩
  | 127 => ⟨S36352x3584, .f32⟩
  | _ => ⟨S32x8, .f32⟩

abbrev hbmTy0_1 (i : Nat) : BufTy := match i % 128 with
  | 0 => ⟨S36352x3584, .f32⟩
  | 1 => ⟨S36352x3584, .f32⟩
  | 2 => ⟨S36352x3584, .f32⟩
  | 3 => ⟨S36352x3584, .f32⟩
  | 4 => ⟨S36352x1024, .f32⟩
  | 5 => ⟨S36352x1024, .f32⟩
  | 6 => ⟨S36352x1024, .f32⟩
  | 7 => ⟨S36352x1024, .f32⟩
  | 8 => ⟨S36352x1, .f32⟩
  | 9 => ⟨S1x1024x3584, .f32⟩
  | 10 => ⟨S1024x3584, .f32⟩
  | 11 => ⟨S1x1024x3584, .f32⟩
  | 12 => ⟨S1024x3584, .f32⟩
  | 13 => ⟨S1x3584x1024, .f32⟩
  | 14 => ⟨S3584x1024, .f32⟩
  | 15 => ⟨S36352x3584, .f32⟩
  | 16 => ⟨S36352x3584, .f32⟩
  | 17 => ⟨S36352x3584, .f32⟩
  | 18 => ⟨S_, .f32⟩
  | 19 => ⟨S36352x3584, .f32⟩
  | 20 => ⟨S36352x3584, .f32⟩
  | 21 => ⟨S_, .f32⟩
  | 22 => ⟨S36352x3584, .f32⟩
  | 23 => ⟨S36352x3584, .f32⟩
  | 24 => ⟨S36352x3584, .f32⟩
  | 25 => ⟨S36352x3584, .f32⟩
  | 26 => ⟨S36352x3584, .f32⟩
  | 27 => ⟨S36352x1024, .f32⟩
  | 28 => ⟨S36352x1024, .f32⟩
  | 29 => ⟨S36352x1024, .f32⟩
  | 30 => ⟨S36352x1024, .f32⟩
  | 31 => ⟨S36352x1, .f32⟩
  | 32 => ⟨S1x1024x3584, .f32⟩
  | 33 => ⟨S1024x3584, .f32⟩
  | 34 => ⟨S1x1024x3584, .f32⟩
  | 35 => ⟨S1024x3584, .f32⟩
  | 36 => ⟨S1x3584x1024, .f32⟩
  | 37 => ⟨S3584x1024, .f32⟩
  | 38 => ⟨S36352x3584, .f32⟩
  | 39 => ⟨S36352x3584, .f32⟩
  | 40 => ⟨S36352x3584, .f32⟩
  | 41 => ⟨S_, .f32⟩
  | 42 => ⟨S36352x3584, .f32⟩
  | 43 => ⟨S36352x3584, .f32⟩
  | 44 => ⟨S_, .f32⟩
  | 45 => ⟨S36352x3584, .f32⟩
  | 46 => ⟨S36352x3584, .f32⟩
  | 47 => ⟨S36352x3584, .f32⟩
  | 48 => ⟨S36352x3584, .f32⟩
  | 49 => ⟨S36352x3584, .f32⟩
  | 50 => ⟨S36352x1024, .f32⟩
  | 51 => ⟨S36352x1024, .f32⟩
  | 52 => ⟨S36352x1024, .f32⟩
  | 53 => ⟨S36352x1024, .f32⟩
  | 54 => ⟨S36352x1, .f32⟩
  | 55 => ⟨S1x1024x3584, .f32⟩
  | 56 => ⟨S1024x3584, .f32⟩
  | 57 => ⟨S1x1024x3584, .f32⟩
  | 58 => ⟨S1024x3584, .f32⟩
  | 59 => ⟨S1x3584x1024, .f32⟩
  | 60 => ⟨S3584x1024, .f32⟩
  | 61 => ⟨S36352x3584, .f32⟩
  | 62 => ⟨S36352x3584, .f32⟩
  | 63 => ⟨S36352x3584, .f32⟩
  | 64 => ⟨S_, .f32⟩
  | 65 => ⟨S36352x3584, .f32⟩
  | 66 => ⟨S36352x3584, .f32⟩
  | 67 => ⟨S_, .f32⟩
  | 68 => ⟨S36352x3584, .f32⟩
  | 69 => ⟨S36352x3584, .f32⟩
  | 70 => ⟨S36352x3584, .f32⟩
  | 71 => ⟨S36352x3584, .f32⟩
  | 72 => ⟨S36352x3584, .f32⟩
  | 73 => ⟨S36352x1024, .f32⟩
  | 74 => ⟨S36352x1024, .f32⟩
  | 75 => ⟨S36352x1024, .f32⟩
  | 76 => ⟨S36352x1024, .f32⟩
  | 77 => ⟨S36352x1, .f32⟩
  | 78 => ⟨S1x1024x3584, .f32⟩
  | 79 => ⟨S1024x3584, .f32⟩
  | 80 => ⟨S1x1024x3584, .f32⟩
  | 81 => ⟨S1024x3584, .f32⟩
  | 82 => ⟨S1x3584x1024, .f32⟩
  | 83 => ⟨S3584x1024, .f32⟩
  | 84 => ⟨S36352x3584, .f32⟩
  | 85 => ⟨S36352x3584, .f32⟩
  | 86 => ⟨S36352x3584, .f32⟩
  | 87 => ⟨S_, .f32⟩
  | 88 => ⟨S36352x3584, .f32⟩
  | 89 => ⟨S36352x3584, .f32⟩
  | 90 => ⟨S_, .f32⟩
  | 91 => ⟨S36352x3584, .f32⟩
  | 92 => ⟨S36352x3584, .f32⟩
  | 93 => ⟨S36352x3584, .f32⟩
  | 94 => ⟨S36352x3584, .f32⟩
  | 95 => ⟨S36352x3584, .f32⟩
  | 96 => ⟨S36352x1024, .f32⟩
  | 97 => ⟨S36352x1024, .f32⟩
  | 98 => ⟨S36352x1024, .f32⟩
  | 99 => ⟨S36352x1024, .f32⟩
  | 100 => ⟨S36352x1, .f32⟩
  | 101 => ⟨S1x1024x3584, .f32⟩
  | 102 => ⟨S1024x3584, .f32⟩
  | 103 => ⟨S1x1024x3584, .f32⟩
  | 104 => ⟨S1024x3584, .f32⟩
  | 105 => ⟨S1x3584x1024, .f32⟩
  | 106 => ⟨S3584x1024, .f32⟩
  | 107 => ⟨S36352x3584, .f32⟩
  | 108 => ⟨S36352x3584, .f32⟩
  | 109 => ⟨S36352x3584, .f32⟩
  | 110 => ⟨S_, .f32⟩
  | 111 => ⟨S36352x3584, .f32⟩
  | 112 => ⟨S36352x3584, .f32⟩
  | 113 => ⟨S_, .f32⟩
  | 114 => ⟨S36352x3584, .f32⟩
  | 115 => ⟨S36352x3584, .f32⟩
  | 116 => ⟨S36352x3584, .f32⟩
  | 117 => ⟨S36352x3584, .f32⟩
  | 118 => ⟨S36352x3584, .f32⟩
  | 119 => ⟨S36352x1024, .f32⟩
  | 120 => ⟨S36352x1024, .f32⟩
  | 121 => ⟨S36352x1024, .f32⟩
  | 122 => ⟨S36352x1024, .f32⟩
  | 123 => ⟨S36352x1024, .bf16⟩
  | _ => ⟨S32x8, .f32⟩

abbrev hbmTy (i : Nat) : BufTy := match i / 128 with
  | 0 => hbmTy0_0 i
  | 1 => hbmTy0_1 i
  | _ => ⟨S32x8, .f32⟩

abbrev bufTy : (tb : Table) → Fin (tcTables nBuf tb) → BufTy
  | .hbm, ⟨i, _⟩ => hbmTy i
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_call2_v0 : Ref sig .tc := ⟨.hbm, 50, rfl⟩
abbrev main_call2_v1 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v28 : Ref sig .tc := ⟨.hbm, 64, rfl⟩
abbrev main_cst_5 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_call4_v0 : Ref sig .tc := ⟨.hbm, 75, rfl⟩
abbrev main_call4_v1 : Ref sig .tc := ⟨.hbm, 76, rfl⟩
abbrev main_call4_cst : Ref sig .tc := ⟨.hbm, 77, rfl⟩
abbrev main_call4_v2 : Ref sig .tc := ⟨.hbm, 78, rfl⟩
abbrev main_call4_v3 : Ref sig .tc := ⟨.hbm, 79, rfl⟩
abbrev main_call4_cst_0 : Ref sig .tc := ⟨.hbm, 80, rfl⟩
abbrev main_call4_v4 : Ref sig .tc := ⟨.hbm, 81, rfl⟩
abbrev main_call4_v5 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_call5_v0 : Ref sig .tc := ⟨.hbm, 98, rfl⟩
abbrev main_call5_v1 : Ref sig .tc := ⟨.hbm, 99, rfl⟩
abbrev main_call5_cst : Ref sig .tc := ⟨.hbm, 100, rfl⟩
abbrev main_call5_v2 : Ref sig .tc := ⟨.hbm, 101, rfl⟩
abbrev main_call5_v3 : Ref sig .tc := ⟨.hbm, 102, rfl⟩
abbrev main_call5_cst_0 : Ref sig .tc := ⟨.hbm, 103, rfl⟩
abbrev main_call5_v4 : Ref sig .tc := ⟨.hbm, 104, rfl⟩
abbrev main_call5_v5 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_call6_v0 : Ref sig .tc := ⟨.hbm, 121, rfl⟩
abbrev main_call6_v1 : Ref sig .tc := ⟨.hbm, 122, rfl⟩
abbrev main_call6_cst : Ref sig .tc := ⟨.hbm, 123, rfl⟩
abbrev main_call6_v2 : Ref sig .tc := ⟨.hbm, 124, rfl⟩
abbrev main_call6_v3 : Ref sig .tc := ⟨.hbm, 125, rfl⟩
abbrev main_call6_cst_0 : Ref sig .tc := ⟨.hbm, 126, rfl⟩
abbrev main_call6_v4 : Ref sig .tc := ⟨.hbm, 127, rfl⟩
abbrev main_call6_v5 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_call7_v0 : Ref sig .tc := ⟨.hbm, 144, rfl⟩
abbrev main_call7_v1 : Ref sig .tc := ⟨.hbm, 145, rfl⟩
abbrev main_call7_cst : Ref sig .tc := ⟨.hbm, 146, rfl⟩
abbrev main_call7_v2 : Ref sig .tc := ⟨.hbm, 147, rfl⟩
abbrev main_call7_v3 : Ref sig .tc := ⟨.hbm, 148, rfl⟩
abbrev main_call7_cst_0 : Ref sig .tc := ⟨.hbm, 149, rfl⟩
abbrev main_call7_v4 : Ref sig .tc := ⟨.hbm, 150, rfl⟩
abbrev main_call7_v5 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_call8_v0 : Ref sig .tc := ⟨.hbm, 167, rfl⟩
abbrev main_call8_v1 : Ref sig .tc := ⟨.hbm, 168, rfl⟩
abbrev main_call8_cst : Ref sig .tc := ⟨.hbm, 169, rfl⟩
abbrev main_call8_v2 : Ref sig .tc := ⟨.hbm, 170, rfl⟩
abbrev main_call8_v3 : Ref sig .tc := ⟨.hbm, 171, rfl⟩
abbrev main_call8_cst_0 : Ref sig .tc := ⟨.hbm, 172, rfl⟩
abbrev main_call8_v4 : Ref sig .tc := ⟨.hbm, 173, rfl⟩
abbrev main_call8_v5 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_call9_v0 : Ref sig .tc := ⟨.hbm, 190, rfl⟩
abbrev main_call9_v1 : Ref sig .tc := ⟨.hbm, 191, rfl⟩
abbrev main_call9_cst : Ref sig .tc := ⟨.hbm, 192, rfl⟩
abbrev main_call9_v2 : Ref sig .tc := ⟨.hbm, 193, rfl⟩
abbrev main_call9_v3 : Ref sig .tc := ⟨.hbm, 194, rfl⟩
abbrev main_call9_cst_0 : Ref sig .tc := ⟨.hbm, 195, rfl⟩
abbrev main_call9_v4 : Ref sig .tc := ⟨.hbm, 196, rfl⟩
abbrev main_call9_v5 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_call10_v0 : Ref sig .tc := ⟨.hbm, 213, rfl⟩
abbrev main_call10_v1 : Ref sig .tc := ⟨.hbm, 214, rfl⟩
abbrev main_call10_cst : Ref sig .tc := ⟨.hbm, 215, rfl⟩
abbrev main_call10_v2 : Ref sig .tc := ⟨.hbm, 216, rfl⟩
abbrev main_call10_v3 : Ref sig .tc := ⟨.hbm, 217, rfl⟩
abbrev main_call10_cst_0 : Ref sig .tc := ⟨.hbm, 218, rfl⟩
abbrev main_call10_v4 : Ref sig .tc := ⟨.hbm, 219, rfl⟩
abbrev main_call10_v5 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_call11_v0 : Ref sig .tc := ⟨.hbm, 236, rfl⟩
abbrev main_call11_v1 : Ref sig .tc := ⟨.hbm, 237, rfl⟩
abbrev main_call11_cst : Ref sig .tc := ⟨.hbm, 238, rfl⟩
abbrev main_call11_v2 : Ref sig .tc := ⟨.hbm, 239, rfl⟩
abbrev main_call11_v3 : Ref sig .tc := ⟨.hbm, 240, rfl⟩
abbrev main_call11_cst_0 : Ref sig .tc := ⟨.hbm, 241, rfl⟩
abbrev main_call11_v4 : Ref sig .tc := ⟨.hbm, 242, rfl⟩
abbrev main_call11_v5 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩

abbrev nD : Nat := 1
abbrev τ : Topo := Topo.v7x

variable {F : FTy → Type} [FloatOps F]
-- ==== Dense.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x1024x3584 : Shape := ⟨3, ![8, 1024, 3584]⟩
abbrev S8x3584x1024 : Shape := ⟨3, ![8, 3584, 1024]⟩
abbrev S8 : Shape := ⟨1, ![8]⟩
abbrev S8192x3584 : Shape := ⟨2, ![8192, 3584]⟩
abbrev S28672x1024 : Shape := ⟨2, ![28672, 1024]⟩
abbrev S16384x512 : Shape := ⟨2, ![16384, 512]⟩
abbrev S16384x2x4x64 : Shape := ⟨4, ![16384, 2, 4, 64]⟩
abbrev S16384x4x2x64 : Shape := ⟨4, ![16384, 4, 2, 64]⟩
abbrev S512x1024 : Shape := ⟨2, ![512, 1024]⟩
abbrev S8x64x1024 : Shape := ⟨3, ![8, 64, 1024]⟩
abbrev S_ : Shape := ⟨0, ![]⟩
abbrev S8x1 : Shape := ⟨2, ![8, 1]⟩
abbrev S1x1024 : Shape := ⟨2, ![1, 1024]⟩
abbrev S256x1024 : Shape := ⟨2, ![256, 1024]⟩
abbrev S256x512 : Shape := ⟨2, ![256, 512]⟩
abbrev S128x3584 : Shape := ⟨2, ![128, 3584]⟩
abbrev S448x1024 : Shape := ⟨2, ![448, 1024]⟩
abbrev S256x2816 : Shape := ⟨2, ![256, 2816]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 42
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8x1024x3584, .f32⟩
  | .hbm, ⟨8, _⟩ => ⟨S8x1024x3584, .f32⟩
  | .hbm, ⟨9, _⟩ => ⟨S8x3584x1024, .f32⟩
  | .hbm, ⟨10, _⟩ => ⟨S8, .i32⟩
  | .hbm, ⟨11, _⟩ => ⟨S8, .i1⟩
  | .hbm, ⟨12, _⟩ => ⟨S8192x3584, .f32⟩
  | .hbm, ⟨13, _⟩ => ⟨S8192x3584, .f32⟩
  | .hbm, ⟨14, _⟩ => ⟨S28672x1024, .f32⟩
  | .hbm, ⟨15, _⟩ => ⟨S16384x512, .f32⟩
  | .hbm, ⟨16, _⟩ => ⟨S16384x512, .bf16⟩
  | .hbm, ⟨17, _⟩ => ⟨S16384x512, .f32⟩
  | .hbm, ⟨18, _⟩ => ⟨S16384x2x4x64, .f32⟩
  | .hbm, ⟨19, _⟩ => ⟨S16384x4x2x64, .f32⟩
  | .hbm, ⟨20, _⟩ => ⟨S16384x512, .f32⟩
  | .hbm, ⟨21, _⟩ => ⟨S16384x512, .bf16⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S8x64x1024, .f32⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S8x1, .i32⟩
  | .hbm, ⟨31, _⟩ => ⟨S8x64x1024, .f32⟩
  | .hbm, ⟨32, _⟩ => ⟨S512x1024, .f32⟩
  | .hbm, ⟨33, _⟩ => ⟨S512x1024, .bf16⟩
  | .hbm, ⟨34, _⟩ => ⟨S1024x2816, .bf16⟩
  | .hbm, ⟨35, _⟩ => ⟨S1024x2816, .bf16⟩
  | .hbm, ⟨36, _⟩ => ⟨S2816x1024, .bf16⟩
  | .hbm, ⟨37, _⟩ => ⟨S1x1024, .f32⟩
  | .hbm, ⟨38, _⟩ => ⟨S16384x1024, .f32⟩
  | .hbm, ⟨39, _⟩ => ⟨S8192x3584, .bf16⟩
  | .hbm, ⟨40, _⟩ => ⟨S8192x3584, .bf16⟩
  | .hbm, ⟨41, _⟩ => ⟨S28672x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S128x3584, .f32⟩
  | .local _ .vmem, ⟨13, _⟩ => ⟨S128x3584, .f32⟩
  | .local _ .vmem, ⟨14, _⟩ => ⟨S128x3584, .f32⟩
  | .local _ .vmem, ⟨15, _⟩ => ⟨S128x3584, .f32⟩
  | .local _ .vmem, ⟨16, _⟩ => ⟨S448x1024, .f32⟩
  | .local _ .vmem, ⟨17, _⟩ => ⟨S448x1024, .f32⟩
  | .local _ .vmem, ⟨18, _⟩ => ⟨S256x1024, .f32⟩
  | .local _ .vmem, ⟨19, _⟩ => ⟨S256x1024, .f32⟩
  | .local _ .vmem, ⟨20, _⟩ => ⟨S128x3584, .bf16⟩
  | .local _ .vmem, ⟨21, _⟩ => ⟨S128x3584, .bf16⟩
  | .local _ .vmem, ⟨22, _⟩ => ⟨S128x3584, .bf16⟩
  | .local _ .vmem, ⟨23, _⟩ => ⟨S128x3584, .bf16⟩
  | .local _ .vmem, ⟨24, _⟩ => ⟨S448x1024, .bf16⟩
  | .local _ .vmem, ⟨25, _⟩ => ⟨S448x1024, .bf16⟩
  | .local _ .vmem, ⟨26, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev main_v25_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x3584 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x3584 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S448x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x3584 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x3584 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S448x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== DenseReferenceIdeal.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x1024x3584 : Shape := ⟨3, ![8, 1024, 3584]⟩
abbrev S8x3584x1024 : Shape := ⟨3, ![8, 3584, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8x1024x3584, .f32⟩
  | .hbm, ⟨8, _⟩ => ⟨S8x1024x3584, .f32⟩
  | .hbm, ⟨9, _⟩ => ⟨S8x3584x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]
-- ==== Proof.EX.Words.lean ====
module

public import Idealize.ShloMosaic.Lib.Pointwise
public import Idealize.ShloMosaic.Lib.WordCmp
public import Idealize.ShloMosaic.Lib.Routing.OpsOne

@[expose] public section

namespace Cert.EX

open Idealize.ShloMosaic Idealize.ShloMosaic.WordCmp

/-- The sign of a word: 0, -1 or 1. -/
def signW (w : BitVec 32) : BitVec 32 := if w = 0 then 0 else if w.msb then -1 else 1

/-- A word divided by 512, rounded down, as the programs spell it. -/
def divFloor (w : BitVec 32) : BitVec 32 :=
  Scalar.select (IntOp.andi (IntOp.cmpi .ne (signW w) (signW 512#32)) (IntOp.cmpi .ne (IntOp.remsi .host w 512#32) 0#32))
    (IntOp.subi (IntOp.divsi .host w 512#32) 1#32) (IntOp.divsi .host w 512#32)

theorem rem_zero (w : BitVec 32) (h : (512 : ℤ) ∣ w.toInt) : IntOp.remsi .host w 512#32 = 0#32 := by
  unfold IntOp.remsi
  rw [if_neg (by simp [IntOp.SDivCorner])]
  apply BitVec.eq_of_toInt_eq
  rw [BitVec.toInt_srem]
  obtain ⟨k, hk⟩ := h
  rw [hk, show (512#32 : BitVec 32).toInt = 512 by decide, Int.mul_tmod_right]
  decide

theorem div_exact (w : BitVec 32) (h : (512 : ℤ) ∣ w.toInt) : (IntOp.divsi .host w 512#32).toInt = w.toInt / 512 := by
  unfold IntOp.divsi
  rw [if_neg (by simp [IntOp.SDivCorner]), BitVec.toInt_sdiv]
  have h1 := BitVec.toInt_lt (x := w)
  have h2 := BitVec.le_toInt (x := w)
  obtain ⟨k, hk⟩ := h
  rw [hk] at h1 h2 ⊢
  rw [show (512#32 : BitVec 32).toInt = 512 by decide, Int.mul_tdiv_cancel_left _ (by decide), Int.mul_ediv_cancel_left _ (by decide)]
  unfold Int.bmod
  norm_num at h1 h2 ⊢
  omega

/-- On a multiple of 512 the division is exact. -/
theorem divFloor_toInt (w : BitVec 32) (h : (512 : ℤ) ∣ w.toInt) : (divFloor w).toInt = w.toInt / 512 := by
  unfold divFloor
  rw [rem_zero w h, show IntOp.cmpi .ne (0#32 : BitVec 32) 0#32 = 0#1 by decide]
  rw [show ∀ b : BitVec 1, IntOp.andi b 0#1 = 0#1 by decide]
  exact div_exact w h

/-- Where each expert's rows end: the counts rounded up to whole blocks of 512, summed up to and including the expert. -/
def ends (n : Fin 8 → BitVec 32) (e : Fin 8) : BitVec 32 :=
  ∑ e' : Fin 8, if e' ≤ e then IntOp.muli (divFloor (IntOp.addi (n e') 511#32)) 512#32 else 0

theorem mul_512_dvd (a : BitVec 32) : (512 : ℤ) ∣ (a * 512#32).toInt := by
  rw [BitVec.toInt_mul, show (512#32 : BitVec 32).toInt = 512 by decide]
  unfold Int.bmod
  norm_num
  split <;> omega

theorem ends_dvd (n : Fin 8 → BitVec 32) (e : Fin 8) : (512 : ℤ) ∣ (ends n e).toInt := by
  have h : ends n e = (∑ e' : Fin 8, if e' ≤ e then divFloor (IntOp.addi (n e') 511#32) else 0) * 512#32 := by
    unfold ends
    rw [Finset.sum_mul]
    refine Finset.sum_congr rfl fun e' _ => ?_
    split
    · rfl
    · exact (BitVec.zero_mul).symm
  rw [h]
  exact mul_512_dvd _

/-- How many experts end at or before row `r`: the number of the expert that owns the row. -/
def before (E : Fin 8 → BitVec 32) (r : ℤ) : ℕ := Nat.count (fun q => ∃ h : q < 8, (E ⟨q, h⟩).toInt ≤ r) 8

theorem before_le (E : Fin 8 → BitVec 32) (r : ℤ) : before E r ≤ 8 := Nat.count_le _

theorem before_congr (E : Fin 8 → BitVec 32) (r r' : ℤ) (h : ∀ e, (E e).toInt ≤ r ↔ (E e).toInt ≤ r') : before E r = before E r' := by
  unfold before
  rw [Nat.count_eq_card_filter_range, Nat.count_eq_card_filter_range]
  congr 1
  exact Finset.filter_congr fun q _ => exists_congr fun hq => h _

/-- All rows of a block of 512 belong to the same expert. -/
theorem before_block (E : Fin 8 → BitVec 32) (hE : ∀ e, (512 : ℤ) ∣ (E e).toInt) (i s : ℤ) (h0 : 0 ≤ s) (h1 : s < 512) :
    before E (i * 512 + s) = before E (i * 512) :=
  before_congr E _ _ fun e => by
    obtain ⟨k, hk⟩ := hE e
    omega

theorem before_lt (E : Fin 8 → BitVec 32) (r : ℤ) (h : r < (E 7).toInt) : before E r ≤ 7 := by
  unfold before
  rw [Nat.count_succ, if_neg (by rintro ⟨_, h'⟩; exact absurd h' (not_le.mpr h)), Nat.add_zero]
  exact Nat.count_le _

/-- The number of the expert of row `r`, kept in range. -/
def owner (E : Fin 8 → BitVec 32) (r : ℤ) : Fin 8 := ⟨min (before E r) 7, by omega⟩

theorem min_word (c : ℕ) (h : c ≤ 8) : (IntOp.minsi (BitVec.ofNat 32 c) 7#32).toNat = min c 7 := by
  interval_cases c <;> decide

theorem toInt_ofNat_small (n : ℕ) (h : n < 2147483648) : (BitVec.ofNat 32 n).toInt = n := by
  have e : (BitVec.ofNat 32 n).toNat = n := by rw [BitVec.toNat_ofNat]; omega
  rw [BitVec.toInt_eq_toNat_of_lt (by rw [e]; omega), e]

/-- The word for "tile `i` holds rows". -/
theorem valid_word (T : BitVec 32) (hT : (512 : ℤ) ∣ T.toInt) (i : ℕ) (hi : i < 71) :
    IntOp.cmpi .slt (BitVec.ofNat 32 i) (divFloor T) = BitVec.ofBool (decide ((i : ℤ) * 512 < T.toInt)) := by
  rw [cmpi_slt_eq, divFloor_toInt T hT, toInt_ofNat_small i (by omega)]
  congr 1
  refine decide_eq_decide.mpr ?_
  omega

/-- The first row of the tile a tile copies its expert from: for a tile that holds rows, its own. -/
theorem src_word (T : BitVec 32) (hT : (512 : ℤ) ∣ T.toInt) (i : ℕ) (hi : i < 71) (h : (i : ℤ) * 512 < T.toInt) :
    (IntOp.muli (IntOp.maxsi (IntOp.minsi (BitVec.ofNat 32 i) (IntOp.subi (divFloor T) 1#32)) 0#32) 512#32).toInt = (i : ℤ) * 512 := by
  have hq := divFloor_toInt T hT
  have h1 := BitVec.toInt_lt (x := T)
  have hsub : (IntOp.subi (divFloor T) 1#32).toInt = T.toInt / 512 - 1 := by
    show (divFloor T - 1#32).toInt = _
    rw [BitVec.toInt_sub, hq, show (1#32 : BitVec 32).toInt = 1 by decide]
    unfold Int.bmod
    norm_num at h1 ⊢
    omega
  have hi' := toInt_ofNat_small i (by omega)
  have hmin : (IntOp.minsi (BitVec.ofNat 32 i) (IntOp.subi (divFloor T) 1#32)).toInt = i := by
    unfold IntOp.minsi
    split
    · exact hi'
    · rename_i hn
      rw [BitVec.slt_iff_toInt_lt, hi', hsub] at hn
      rw [hsub]
      omega
  have hmax : IntOp.maxsi (IntOp.minsi (BitVec.ofNat 32 i) (IntOp.subi (divFloor T) 1#32)) 0#32 = BitVec.ofNat 32 i := by
    apply BitVec.eq_of_toInt_eq
    unfold IntOp.maxsi
    split
    · rw [hmin, hi']
    · rename_i hn
      rw [BitVec.slt_iff_toInt_lt, hmin, BitVec.toInt_zero] at hn
      rw [hi', BitVec.toInt_zero]
      omega
  rw [hmax]
  show (BitVec.ofNat 32 i * 512#32).toInt = _
  rw [BitVec.toInt_mul, hi', show (512#32 : BitVec 32).toInt = 512 by decide]
  unfold Int.bmod
  norm_num
  omega

end Cert.EX
-- ==== Proof.EX.FrameIdeal.lean ====
module

public import proofs.«01_k».proof.Proof.Gen.ExpertsIdeal.Frame.RunD
public import Idealize.ShloMosaic.Lib.Claim

@[expose] public section

-- membership in a rectangle of production extents (`View.cover_of_tiled`): the elaborator's structural look
-- recurses once per coordinate of the long axes
set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x128 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : cond0_1 i (tbM0_1.view.readAt (Elt F) (Rect.unit (s := S71) (k0_off1 i) S1.size (k0_off1_inb i)).toLoadRect xt1 (Shape.Idx.first (numel1_S1.symm ▸ Nat.one_pos)))) : Vec F S512x1024 .bf16 :=
  VO0_5.read (Elt F) (VO0_5.writes (Elt F) VO0_5.junk (kernelRun0_A c i arg4 harg4 arg5 harg5 arg6 harg6 arg7 harg7 arg8 harg8 arg9 harg9 arg10 harg10 hc0 hc2 x0 x1 x2 x3 x4 xt0 xt1 hc1).1)

/-- Case A's pieces for scratch `arg10`, which the kernel carries between points, cover it: 2 pieces of `S512x1024` tiling it (Lib/Ring.lean `Piece.tiledL`). -/
theorem scover0_A_0 (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x128 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : cond0_1 i (tbM0_1.view.readAt (Elt F) (Rect.unit (s := S71) (k0_off1 i) S1.size (k0_off1_inb i)).toLoadRect xt1 (Shape.Idx.first (numel1_S1.symm ▸ Nat.one_pos)))) (y : S512x1024.Idx) :
    ∃ pc ∈ (kernelRun0_A c i arg4 harg4 arg5 harg5 arg6 harg6 arg7 harg7 arg8 harg8 arg9 harg9 arg10 harg10 hc0 hc2 x0 x1 x2 x3 x4 xt0 xt1 hc1).2.1, y ∈ pc.1.set :=
  View.cover_of_tiledL (kernelRun0_A c i arg4 harg4 arg5 harg5 arg6 harg6 arg7 harg7 arg8 harg8 arg9 harg9 arg10 harg10 hc0 hc2 x0 x1 x2 x3 x4 xt0 xt1 hc1).2.1 S512x1024.size (by sl_kernel_rfl) y

/-- What case A leaves in scratch `arg10`: its pieces read back over junk. -/
def sout0_A_0 (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x128 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : cond0_1 i (tbM0_1.view.readAt (Elt F) (Rect.unit (s := S71) (k0_off1 i) S1.size (k0_off1_inb i)).toLoadRect xt1 (Shape.Idx.first (numel1_S1.symm ▸ Nat.one_pos)))) : Vec F S512x1024 .f32 :=
  VS0_0.read (Elt F) (VS0_0.writes (Elt F) VS0_0.junk (kernelRun0_A c i arg4 harg4 arg5 harg5 arg6 harg6 arg7 harg7 arg8 harg8 arg9 harg9 arg10 harg10 hc0 hc2 x0 x1 x2 x3 x4 xt0 xt1 hc1).2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x128 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : ¬cond0_1 i (tbM0_1.view.readAt (Elt F) (Rect.unit (s := S71) (k0_off1 i) S1.size (k0_off1_inb i)).toLoadRect xt1 (Shape.Idx.first (numel1_S1.symm ▸ Nat.one_pos)))) : Vec F S512x1024 .bf16 :=
  VO0_5.read (Elt F) (VO0_5.writes (Elt F) VO0_5.junk (kernelRun0_B c i arg4 harg4 arg5 harg5 arg6 harg6 arg7 harg7 arg8 harg8 arg9 harg9 arg10 harg10 hc0 hc2 x0 x1 x2 x3 x4 xt0 xt1 hc1).1)

/-- Case B's pieces for scratch `arg10`, which the kernel carries between points, cover it: 1 piece of `S512x1024` tiling it (Lib/Ring.lean `Piece.tiledL`). -/
theorem scover0_B_0 (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x128 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : ¬cond0_1 i (tbM0_1.view.readAt (Elt F) (Rect.unit (s := S71) (k0_off1 i) S1.size (k0_off1_inb i)).toLoadRect xt1 (Shape.Idx.first (numel1_S1.symm ▸ Nat.one_pos)))) (y : S512x1024.Idx) :
    ∃ pc ∈ (kernelRun0_B c i arg4 harg4 arg5 harg5 arg6 harg6 arg7 harg7 arg8 harg8 arg9 harg9 arg10 harg10 hc0 hc2 x0 x1 x2 x3 x4 xt0 xt1 hc1).2.1, y ∈ pc.1.set :=
  View.cover_of_tiledL (kernelRun0_B c i arg4 harg4 arg5 harg5 arg6 harg6 arg7 harg7 arg8 harg8 arg9 harg9 arg10 harg10 hc0 hc2 x0 x1 x2 x3 x4 xt0 xt1 hc1).2.1 S512x1024.size (by sl_kernel_rfl) y

/-- What case B leaves in scratch `arg10`: its pieces read back over junk. -/
def sout0_B_0 (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x128 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : ¬cond0_1 i (tbM0_1.view.readAt (Elt F) (Rect.unit (s := S71) (k0_off1 i) S1.size (k0_off1_inb i)).toLoadRect xt1 (Shape.Idx.first (numel1_S1.symm ▸ Nat.one_pos)))) : Vec F S512x1024 .f32 :=
  VS0_0.read (Elt F) (VS0_0.writes (Elt F) VS0_0.junk (kernelRun0_B c i arg4 harg4 arg5 harg5 arg6 harg6 arg7 harg7 arg8 harg8 arg9 harg9 arg10 harg10 hc0 hc2 x0 x1 x2 x3 x4 xt0 xt1 hc1).2.1)

/-- Case C's pieces for output 5 tile its block (1 store of `S512x1024`, checked by the kernel's evaluation: Lib/Ring.lean `Piece.tiledL`, linear in the pieces, through a loop's `@[irreducible]` trip theorem too), so they cover it. -/
theorem cover0_C_5 (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x128 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S71) (k0_off1 i) S1.size (k0_off1_inb i)).toLoadRect xt1 (Shape.Idx.first (numel1_S1.symm ▸ Nat.one_pos)))) (y : S512x1024.Idx) :
    ∃ pc ∈ (kernelRun0_C c i arg4 harg4 arg5 harg5 arg6 harg6 arg7 harg7 arg8 harg8 arg9 harg9 arg10 harg10 hc0 hc2 x0 x1 x2 x3 x4 xt0 xt1 xs0 hc1).1, y ∈ pc.1.set :=
  View.cover_of_tiledL (kernelRun0_C c i arg4 harg4 arg5 harg5 arg6 harg6 arg7 harg7 arg8 harg8 arg9 harg9 arg10 harg10 hc0 hc2 x0 x1 x2 x3 x4 xt0 xt1 xs0 hc1).1 S512x1024.size (by sl_kernel_rfl) y

/-- What case C leaves in output 5's staging buffer: its pieces read back over junk. -/
def out0_C_5 (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x128 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S71) (k0_off1 i) S1.size (k0_off1_inb i)).toLoadRect xt1 (Shape.Idx.first (numel1_S1.symm ▸ Nat.one_pos)))) : Vec F S512x1024 .bf16 :=
  VO0_5.read (Elt F) (VO0_5.writes (Elt F) VO0_5.junk (kernelRun0_C c i arg4 harg4 arg5 harg5 arg6 harg6 arg7 harg7 arg8 harg8 arg9 harg9 arg10 harg10 hc0 hc2 x0 x1 x2 x3 x4 xt0 xt1 xs0 hc1).1)

/-- Case C's pieces for scratch `arg10`, which the kernel carries between points, cover it: 1 piece of `S512x1024` tiling it (Lib/Ring.lean `Piece.tiledL`). -/
theorem scover0_C_0 (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x128 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S71) (k0_off1 i) S1.size (k0_off1_inb i)).toLoadRect xt1 (Shape.Idx.first (numel1_S1.symm ▸ Nat.one_pos)))) (y : S512x1024.Idx) :
    ∃ pc ∈ (kernelRun0_C c i arg4 harg4 arg5 harg5 arg6 harg6 arg7 harg7 arg8 harg8 arg9 harg9 arg10 harg10 hc0 hc2 x0 x1 x2 x3 x4 xt0 xt1 xs0 hc1).2.1, y ∈ pc.1.set :=
  View.cover_of_tiledL (kernelRun0_C c i arg4 harg4 arg5 harg5 arg6 harg6 arg7 harg7 arg8 harg8 arg9 harg9 arg10 harg10 hc0 hc2 x0 x1 x2 x3 x4 xt0 xt1 xs0 hc1).2.1 S512x1024.size (by sl_kernel_rfl) y

/-- What case C leaves in scratch `arg10`: its pieces read back over junk. -/
def sout0_C_0 (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x128 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S71) (k0_off1 i) S1.size (k0_off1_inb i)).toLoadRect xt1 (Shape.Idx.first (numel1_S1.symm ▸ Nat.one_pos)))) : Vec F S512x1024 .f32 :=
  VS0_0.read (Elt F) (VS0_0.writes (Elt F) VS0_0.junk (kernelRun0_C c i arg4 harg4 arg5 harg5 arg6 harg6 arg7 harg7 arg8 harg8 arg9 harg9 arg10 harg10 hc0 hc2 x0 x1 x2 x3 x4 xt0 xt1 xs0 hc1).2.1)

/-- Case D's pieces for output 5 tile its block (1 store of `S512x1024`, checked by the kernel's evaluation: Lib/Ring.lean `Piece.tiledL`, linear in the pieces, through a loop's `@[irreducible]` trip theorem too), so they cover it. -/
theorem cover0_D_5 (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x128 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S71) (k0_off1 i) S1.size (k0_off1_inb i)).toLoadRect xt1 (Shape.Idx.first (numel1_S1.symm ▸ Nat.one_pos)))) (y : S512x1024.Idx) :
    ∃ pc ∈ (kernelRun0_D c i arg4 harg4 arg5 harg5 arg6 harg6 arg7 harg7 arg8 harg8 arg9 harg9 arg10 harg10 hc0 hc2 x0 x1 x2 x3 x4 xt0 xt1 xs0 hc1).1, y ∈ pc.1.set :=
  View.cover_of_tiledL (kernelRun0_D c i arg4 harg4 arg5 harg5 arg6 harg6 arg7 harg7 arg8 harg8 arg9 harg9 arg10 harg10 hc0 hc2 x0 x1 x2 x3 x4 xt0 xt1 xs0 hc1).1 S512x1024.size (by sl_kernel_rfl) y

/-- What case D leaves in output 5's staging buffer: its pieces read back over junk. -/
def out0_D_5 (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x128 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S71) (k0_off1 i) S1.size (k0_off1_inb i)).toLoadRect xt1 (Shape.Idx.first (numel1_S1.symm ▸ Nat.one_pos)))) : Vec F S512x1024 .bf16 :=
  VO0_5.read (Elt F) (VO0_5.writes (Elt F) VO0_5.junk (kernelRun0_D c i arg4 harg4 arg5 harg5 arg6 harg6 arg7 harg7 arg8 harg8 arg9 harg9 arg10 harg10 hc0 hc2 x0 x1 x2 x3 x4 xt0 xt1 xs0 hc1).1)

/-- Case D stores nothing into scratch `arg10`: it holds what the point before left. -/
def sout0_D_0 (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x128 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S71) (k0_off1 i) S1.size (k0_off1_inb i)).toLoadRect xt1 (Shape.Idx.first (numel1_S1.symm ▸ Nat.one_pos)))) : Vec F S512x1024 .f32 := xs0

/-! ## What the outputs hold after each point -/

/-- What one grid point leaves in the result block and in the accumulator, from what the point before left. -/
def stepAt (hO : Ok m) (c : Dev nD) (t : Fin (cfgM m hO).N) (prev : Vec F S512x1024 .bf16 × Vec F S512x1024 .f32) : Vec F S512x1024 .bf16 × Vec F S512x1024 .f32 :=
  if h1 : cond0_1 (grid0.coords t) (tbM0_1.view.readAt (Elt F) (Rect.unit (s := S71) (k0_off1 (grid0.coords t)) S1.size (k0_off1_inb (grid0.coords t))).toLoadRect (tbl m 1) (Shape.Idx.first (numel1_S1.symm ▸ Nat.one_pos))) then
    if h0 : t.val % 2 = 0 then
      if h2 : t.val % 2 = 1 then prev else
      (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1)
    else if h2 : t.val % 2 = 1 then
      (out0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) prev.2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) prev.2 h1)
    else prev
  else
    if h0 : t.val % 2 = 0 then
      if h2 : t.val % 2 = 1 then prev else
      (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1)
    else if h2 : t.val % 2 = 1 then
      (out0_D_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) prev.2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) prev.2 h1)
    else prev

/-- The points run one after another: the result block and the accumulator after the first `n + 1` of them. -/
def outsAt0 (hO : Ok m) (c : Dev nD) : (n : ℕ) → n < (cfgM m hO).N → Vec F S512x1024 .bf16 × Vec F S512x1024 .f32
  | 0, hn => stepAt m hO c ⟨0, hn⟩ (constant S512x1024 .bf16 0x0000#16, constant S512x1024 .f32 0x00000000#32)
  | n + 1, hn => stepAt m hO c ⟨n + 1, hn⟩ (outsAt0 hO c n (Nat.lt_of_succ_lt hn))

theorem outsAt0_step (hO : Ok m) (c : Dev nD) (t : Fin (cfgM m hO).N) : ∃ prev, outsAt0 m hO c t.val t.isLt = stepAt m hO c t prev := by
  obtain ⟨n, hn⟩ := t
  cases n with
  | zero => exact ⟨_, by rw [outsAt0]⟩
  | succ n => exact ⟨_, by rw [outsAt0]⟩

theorem outsAt0_succ (hO : Ok m) (c : Dev nD) (t : Fin (cfgM m hO).N) (h : ¬t.val % 2 = 0) :
    outsAt0 m hO c t.val t.isLt = stepAt m hO c t (outsAt0 m hO c (t.val - 1) (by have hN := t.isLt; omega)) := by
  obtain ⟨n, hn⟩ := t
  cases n with
  | zero => exact absurd (Nat.zero_mod 2) h
  | succ n => simp only [outsAt0, Nat.add_sub_cancel]

theorem outsAt0_A (hO : Ok m) (c : Dev nD) (t : Fin (cfgM m hO).N) (h0 : t.val % 2 = 0) (h1 : cond0_1 (grid0.coords t) (tbM0_1.view.readAt (Elt F) (Rect.unit (s := S71) (k0_off1 (grid0.coords t)) S1.size (k0_off1_inb (grid0.coords t))).toLoadRect (tbl m 1) (Shape.Idx.first (numel1_S1.symm ▸ Nat.one_pos)))) (h2 : ¬t.val % 2 = 1) :
    outsAt0 m hO c t.val t.isLt = (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1) := by
  obtain ⟨prev, e⟩ := outsAt0_step m hO c t
  rw [e, stepAt, dif_pos h1, dif_pos h0, dif_neg h2]

theorem outsAt0_B (hO : Ok m) (c : Dev nD) (t : Fin (cfgM m hO).N) (h0 : t.val % 2 = 0) (h1 : ¬cond0_1 (grid0.coords t) (tbM0_1.view.readAt (Elt F) (Rect.unit (s := S71) (k0_off1 (grid0.coords t)) S1.size (k0_off1_inb (grid0.coords t))).toLoadRect (tbl m 1) (Shape.Idx.first (numel1_S1.symm ▸ Nat.one_pos)))) (h2 : ¬t.val % 2 = 1) :
    outsAt0 m hO c t.val t.isLt = (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1) := by
  obtain ⟨prev, e⟩ := outsAt0_step m hO c t
  rw [e, stepAt, dif_neg h1, dif_pos h0, dif_neg h2]

theorem outsAt0_C (hO : Ok m) (c : Dev nD) (t : Fin (cfgM m hO).N) (h0 : ¬t.val % 2 = 0) (h1 : cond0_1 (grid0.coords t) (tbM0_1.view.readAt (Elt F) (Rect.unit (s := S71) (k0_off1 (grid0.coords t)) S1.size (k0_off1_inb (grid0.coords t))).toLoadRect (tbl m 1) (Shape.Idx.first (numel1_S1.symm ▸ Nat.one_pos)))) (h2 : t.val % 2 = 1) :
    outsAt0 m hO c t.val t.isLt = (out0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2 h1) := by
  rw [outsAt0_succ m hO c t h0, stepAt, dif_pos h1, dif_neg h0, dif_pos h2]

theorem outsAt0_D (hO : Ok m) (c : Dev nD) (t : Fin (cfgM m hO).N) (h0 : ¬t.val % 2 = 0) (h1 : ¬cond0_1 (grid0.coords t) (tbM0_1.view.readAt (Elt F) (Rect.unit (s := S71) (k0_off1 (grid0.coords t)) S1.size (k0_off1_inb (grid0.coords t))).toLoadRect (tbl m 1) (Shape.Idx.first (numel1_S1.symm ▸ Nat.one_pos)))) (h2 : t.val % 2 = 1) :
    outsAt0 m hO c t.val t.isLt = (out0_D_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2 h1) := by
  rw [outsAt0_succ m hO c t h0, stepAt, dif_neg h1, dif_neg h0, dif_pos h2]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 142 := lt_of_lt_of_eq t.isLt (show (cfgM m hO).N = 142 from N_0)
  by_cases h0 : t.val % 2 = 0
  · by_cases h1 : cond0_1 (grid0.coords t) (tbM0_1.view.readAt (Elt F) (Rect.unit (s := S71) (k0_off1 (grid0.coords t)) S1.size (k0_off1_inb (grid0.coords t))).toLoadRect (tbl m 1) (Shape.Idx.first (numel1_S1.symm ▸ Nat.one_pos)))
    · by_cases h2 : t.val % 2 = 1
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [Dat.leavesExact_idle (dats m hO 0 c) 5 t (idleAt0_5_A m hO t ((hcond0_0 t).mpr h0) (fun h => h2 ((hcond0_2 t).mp h))) (noFlush0_5_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HT0]; · iexact HT0
          isplitl [HT1]; · iexact HT1
          iintro ⟨H0, H1, H2, H3, H4, H5, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          iexists _; iexact H5
        · rw [PhiS_castSucc m hO c t, PhiS_pos m hO c _ _ hz, PhiT0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          isplitl [HT0]; · iexact HT0
          isplitl [HT1]; · iexact HT1
          iintro ⟨H0, H1, H2, H3, H4, H5, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          iexists _; iexact H5
    · by_cases h2 : t.val % 2 = 1
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [Dat.leavesExact_idle (dats m hO 0 c) 5 t (idleAt0_5_B m hO t ((hcond0_0 t).mpr h0) (fun h => h2 ((hcond0_2 t).mp h))) (noFlush0_5_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HT0]; · iexact HT0
          isplitl [HT1]; · iexact HT1
          iintro ⟨H0, H1, H2, H3, H4, H5, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          iexists _; iexact H5
        · rw [PhiS_castSucc m hO c t, PhiS_pos m hO c _ _ hz, PhiT0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          isplitl [HT0]; · iexact HT0
          isplitl [HT1]; · iexact HT1
          iintro ⟨H0, H1, H2, H3, H4, H5, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          iexists _; iexact H5
  · by_cases h1 : cond0_1 (grid0.coords t) (tbM0_1.view.readAt (Elt F) (Rect.unit (s := S71) (k0_off1 (grid0.coords t)) S1.size (k0_off1_inb (grid0.coords t))).toLoadRect (tbl m 1) (Shape.Idx.first (numel1_S1.symm ▸ Nat.one_pos)))
    · by_cases h2 : t.val % 2 = 1
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5_C m hO t (fun h => h0 ((hcond0_0 t).mp h)) ((hcond0_2 t).mpr h2)]; try rfl, after0_5]
        by_cases hz : t.val = 0
        · exfalso; have hN : t.val < 142 := lt_of_lt_of_eq t.isLt (show (cfgM m hO).N = 142 from N_0); omega
        · rw [PhiS_castSucc m hO c t, PhiS_pos m hO c _ _ hz, PhiT0_eq]
          rw [outsAt0_C m hO c t h0 h1 h2]
          unfold out0_C_5 sout0_C_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (tbl m 0) (tbl m 1) _ h1).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HT0]; · iexact HT0
          isplitl [HT1]; · iexact HT1
          iintro ⟨H0, H1, H2, H3, H4, ⟨%e5, H5⟩, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_C_5 c _ _ _ _ _ _ _ _ _ _ _ _ _ _ _ _ _ _ _ _ _ _ _ _ _ _)
      · exfalso; omega
    · by_cases h2 : t.val % 2 = 1
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5_D m hO t (fun h => h0 ((hcond0_0 t).mp h)) ((hcond0_2 t).mpr h2)]; try rfl, after0_5]
        by_cases hz : t.val = 0
        · exfalso; have hN : t.val < 142 := lt_of_lt_of_eq t.isLt (show (cfgM m hO).N = 142 from N_0); omega
        · rw [PhiS_castSucc m hO c t, PhiS_pos m hO c _ _ hz, PhiT0_eq]
          rw [outsAt0_D m hO c t h0 h1 h2]
          unfold out0_D_5 sout0_D_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
          iapply ((kernelRun0_D c (grid0.coords t) _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (tbl m 0) (tbl m 1) _ h1).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HT0]; · iexact HT0
          isplitl [HT1]; · iexact HT1
          iintro ⟨H0, H1, H2, H3, H4, ⟨%e5, H5⟩, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_D_5 c _ _ _ _ _ _ _ _ _ _ _ _ _ _ _ _ _ _ _ _ _ _ _ _ _ _)
      · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 142 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- THE FRAME: `Cert.quiescent_ExpertsIdeal`'s statement (Defs.lean) at any `F` — Proof.lean cites it at `Bits`:
    `theorem Cert.Proof.claim : Cert.Claim := ⟨Cert.ExpertsIdeal.Gen.facts, fun m ρ _ => Cert.ExpertsIdeal.Gen.frame m ρ⟩`; here for every contents of the PREFETCHED TABLES, UNDER `Gen.Ok m` (the pipeline's side condition of
    them), which Proof.lean proves from the precondition: `⟨…, fun m ρ h => Cert.ExpertsIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ExpertsIdeal.Gen

end
-- ==== Proof.EX.RangeIdeal.lean ====
module

public import proofs.«01_k».proof.Proof.Gen.ExpertsIdeal.Frame.Runs
public import proofs.«01_k».proof.Proof.EX.Words
public import Idealize.ShloMosaic.Lib.Pipeline.ValueKit
public import Idealize.ShloMosaic.Lib.Pointwise

@[expose] public section

set_option maxRecDepth 16384

noncomputable section

namespace Cert.EX.Ideal

open Idealize.ShloMosaic Idealize.ShloMosaic.TcCoe Idealize.ShloMosaic.Routing Idealize.SL.Sem
open Cert.ExpertsIdeal Cert.ExpertsIdeal.Gen

variable {F : FTy → Type} [FloatOps F]

/-- A count of at most eight lowered to seven is a row of the weights. -/
theorem lowered_lt (past : IVec S71x8 1) (i : S71.Idx) :
    (minsi (Host.reduce IntOp.addi (extui 32 past natLt_1_32) (constantI S_ 32 0#32) reducesTo_S71x8_S71_d1 h_S_)
      (broadcastInDim S71 ![] bcast_S_S71 (constantI S_ 32 7#32)) i).toNat < 8 := by
  obtain ⟨a, rfl⟩ : ∃ a : Fin 71, i = ix1 a := ⟨i 0, eq_ix1 i⟩
  classical
  have hr : (Host.reduce IntOp.addi (extui 32 past natLt_1_32) (constantI S_ 32 0#32) reducesTo_S71x8_S71_d1 h_S_ : IVec S71 32) (ix1 a)
      = BitVec.ofNat 32 (Nat.count (fun q => ∃ h : q < 8, past (ix2 a ⟨q, h⟩) = 1#1) 8) :=
    reduce_count (n := 71) (m := 8) (by norm_num) past natLt_1_32 reducesTo_S71x8_S71_d1 h_S_ a _
      fun q => ⟨fun e => ⟨q.isLt, e⟩, fun ⟨_, e⟩ => e⟩
  have e : (minsi (Host.reduce IntOp.addi (extui 32 past natLt_1_32) (constantI S_ 32 0#32) reducesTo_S71x8_S71_d1 h_S_)
      (broadcastInDim S71 ![] bcast_S_S71 (constantI S_ 32 7#32)) (ix1 a))
      = IntOp.minsi (BitVec.ofNat 32 (Nat.count (fun q => ∃ h : q < 8, past (ix2 a ⟨q, h⟩) = 1#1) 8)) 7#32 := by
    rw [← hr]
    rfl
  rw [e, min_word _ (Nat.count_le _)]
  omega

section Entry
variable (m : (ℓ : Loc nD τ sig) → Buf (Elt F) ℓ)

set_option maxHeartbeats 1600000 in
theorem V_lowered (c : Dev nD) : ∃ past : IVec S71x8 1, V m c main_v36 =
    minsi (Host.reduce IntOp.addi (extui 32 past natLt_1_32) (constantI S_ 32 0#32) reducesTo_S71x8_S71_d1 h_S_)
      (broadcastInDim S71 ![] bcast_S_S71 (constantI S_ 32 7#32)) := by
  unfold V
  simp only [hostOps0, hostOps0_1, hostOps0_2, hostOps0_3, hostOps0_4, hostOps0_5, hostOps0_6, hostOps0_7, hostOps0_8, List.flatten_cons, List.flatten_nil, List.append_nil, List.cons_append,
      List.nil_append]
  entry_read
  exact ⟨_, rfl⟩

/-- The table of experts holds numbers below eight. -/
theorem table_lt (i : S71.Idx) : (tbl m 0 i : BitVec 32).toNat < 8 := by
  obtain ⟨past, e⟩ := V_lowered m 0
  have e' : tbl m 0 = V m 0 main_v36 := rfl
  rw [e', e]
  exact lowered_lt past i

theorem half_lt (b : BitVec 1) (j : Fin 2) : (Scalar.select b (BitVec.ofNat 32 j.val) 1#32 : BitVec 32).toNat < 2 := by
  unfold Scalar.select
  split
  · fin_cases j <;> decide
  · decide

theorem row_le (n : ℕ) (h : n < 8) : (n + 1) * 1 ≤ 8 := by omega

theorem half_le (n : ℕ) (h : n < 2) : (n + 1) * 1792 ≤ 3584 := by omega

/-- Tables whose experts are below eight name blocks inside the weights. -/
theorem ok_of (pf : pre0.Contents (Elt F)) (hpf : ∀ i : S71.Idx, (pf 0 i : BitVec 32).toNat < 8) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · have h := hpf ((Rect.unit (s := S71) ![(Scalar.indexCast (BitVec.ofNat 32 (i 0).val)).toNat] S1.size (k0_off1_inb i)).emb (Shape.Idx.first (numel1_S1.symm ▸ Nat.one_pos)))
    have h' := half_lt (Scalar.cmpi .eq (pf.at 1 (Rect.unit (s := S71) ![(Scalar.indexCast (BitVec.ofNat 32 (i 0).val)).toNat] S1.size (k0_off1_inb i)) numel1_S1) 1#32) (i 1)
    fin_cases a
    · exact row_le _ h
    · exact Nat.le_refl 1024
    · exact half_le _ h'
  · have h := hpf ((Rect.unit (s := S71) ![(Scalar.indexCast (BitVec.ofNat 32 (i 0).val)).toNat] S1.size (k0_off1_inb i)).emb (Shape.Idx.first (numel1_S1.symm ▸ Nat.one_pos)))
    have h' := half_lt (Scalar.cmpi .eq (pf.at 1 (Rect.unit (s := S71) ![(Scalar.indexCast (BitVec.ofNat 32 (i 0).val)).toNat] S1.size (k0_off1_inb i)) numel1_S1) 1#32) (i 1)
    fin_cases a
    · exact row_le _ h
    · exact Nat.le_refl 1024
    · exact half_le _ h'
  · have h := hpf ((Rect.unit (s := S71) ![(Scalar.indexCast (BitVec.ofNat 32 (i 0).val)).toNat] S1.size (k0_off1_inb i)).emb (Shape.Idx.first (numel1_S1.symm ▸ Nat.one_pos)))
    have h' := half_lt (Scalar.cmpi .eq (pf.at 1 (Rect.unit (s := S71) ![(Scalar.indexCast (BitVec.ofNat 32 (i 0).val)).toNat] S1.size (k0_off1_inb i)) numel1_S1) 1#32) (i 1)
    fin_cases a
    · exact row_le _ h
    · exact half_le _ h'
    · exact Nat.le_refl 1024

/-- The blocks that the tables name lie inside the weights. -/
theorem ok : Ok m := ok_of (tbl m) (table_lt m)

end Entry

end Cert.EX.Ideal
-- ==== Proof.EX.Spec.lean ====
module

public import Idealize.ShloMosaic.Lib.Pointwise

@[expose] public section

set_option maxRecDepth 16384

noncomputable section

namespace Cert.EX

open Idealize.ShloMosaic

/-- One hidden number of an expert: the gated row times the row of the second projection. -/
def hidden (x g u : Fin 1024 → EReal) : EReal :=
  (∑ k, x k * g k) * Ideal.div 1 (1 + Ideal.exp (-∑ k, x k * g k)) * ∑ k, x k * u k

/-- One number of an expert's answer for a row. -/
def expertRow (x : Fin 1024 → EReal) (g u : Fin 1024 → Fin 3584 → EReal) (d : Fin 3584 → EReal) : EReal :=
  ∑ f, hidden x (fun k => g k f) (fun k => u k f) * d f

/-- Half of the sum over the hidden numbers. -/
def halfRow (x : Fin 1024 → EReal) (g u : Fin 1024 → Fin 1792 → EReal) (d : Fin 1792 → EReal) : EReal :=
  ∑ f, hidden x (fun k => g k f) (fun k => u k f) * d f

theorem expertRow_halves (x : Fin 1024 → EReal) (g u : Fin 1024 → Fin 3584 → EReal) (d : Fin 3584 → EReal) :
    expertRow x g u d = halfRow x (fun k f => g k ⟨f.val, by omega⟩) (fun k f => u k ⟨f.val, by omega⟩) (fun f => d ⟨f.val, by omega⟩)
      + halfRow x (fun k f => g k ⟨1792 + f.val, by omega⟩) (fun k f => u k ⟨1792 + f.val, by omega⟩) (fun f => d ⟨1792 + f.val, by omega⟩) :=
  Fin.sum_univ_add (a := 1792) (b := 1792) fun f => hidden x (fun k => g k f) (fun k => u k f) * d f

end Cert.EX
-- ==== Proof.EX.Payload.lean ====
module

public import proofs.«01_k».proof.Proof.EX.FrameIdeal
public import proofs.«01_k».proof.Proof.EX.Spec
public import Idealize.ShloMosaic.Lib.Pipeline.ValueKit
public import Idealize.ShloMosaic.Lib.Pointwise

@[expose] public section

set_option maxRecDepth 16384

noncomputable section

namespace Cert.EX

open Idealize.ShloMosaic Idealize.ShloMosaic.TcCoe Idealize.SL.Sem
open Cert.ExpertsIdeal Cert.ExpertsIdeal.Gen

theorem one_word : Ideal.ofBits .f32 0x3F800000#32 = (1 : EReal) := by
  simp [Ideal.ofBits, Ideal.ieee, -EReal.coe_mul]; try norm_num

theorem zero_word : Ideal.ofBits .f32 0x00000000#32 = (0 : EReal) := by
  simp [Ideal.ofBits, Ideal.ieee]

theorem pay_zero (i : S512x1024.Idx) : k0_pay1 (F := Ideal) i = (0 : EReal) := by
  pointwise [k0_pay1]

theorem pay_half (x : Vec Ideal S512x1024 .bf16) (g u : Vec Ideal S1x1024x1792 .bf16) (a : Vec Ideal S512x1024 .f32)
    (d : Vec Ideal S1x1792x1024 .bf16) (r : Fin 512) (j : Fin 1024) :
    k0_pay2 x g u a d (ix2 r j) = a (ix2 r j) + halfRow (fun k => x (ix2 r k)) (fun k f => g (ix3 0 k f)) (fun k f => u (ix3 0 k f)) (fun f => d (ix3 0 f j)) := by
  pointwise [k0_pay2]
  simp only [zero_sub]
  rfl

theorem pay_gate (a : Vec Ideal S512x1024 .f32) (g : Vec Ideal S512x1 .f32) (r : Fin 512) (j : Fin 1024) :
    k0_pay3 a g (ix2 r j) = (a (ix2 r j) * g (ix2 r 0) : EReal) := by
  pointwise [k0_pay3]

section Case
variable (c : Dev nD) (i : grid0.Coords) (arg4 : Memref sig .tc .vmem S512x1024 .bf16) (harg4 : arg4.IsWhole) (arg5 : Memref sig .tc .vmem S512x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .bf16) (harg9 : arg9.IsWhole) (arg10 : Memref sig .tc .vmem S512x1024 .f32) (harg10 : arg10.IsWhole)
  (x0 : Vec Ideal S512x1024 .bf16) (x1 : Vec Ideal S512x128 .f32) (x2 : Vec Ideal S1x1024x1792 .bf16) (x3 : Vec Ideal S1x1024x1792 .bf16) (x4 : Vec Ideal S1x1792x1024 .bf16) (xt0 : TbBuf0 (F := Ideal) c tbM0_0) (xt1 : TbBuf0 (F := Ideal) c tbM0_1)

/-- The first column of the gates. -/
def gateCol (x1 : Vec Ideal S512x128 .f32) : Vec Ideal S512x1 .f32 :=
  View.ld x1 (Rect.unit (s := S512x128) ![0, 0] ![512, 1] inb_S512x128_S512x1_0_0)

theorem gateCol_at (x1 : Vec Ideal S512x128 .f32) (r : Fin 512) : gateCol x1 (ix2 r 0) = x1 (ix2 r 0) := by
  unfold gateCol
  show x1 _ = x1 _
  congr 1
  funext a
  fin_cases a <;> refine Fin.ext ?_ <;> simp [Rect.unit, Rect.emb, ix2]

theorem acc_A (hc0 : cond0_0 i) (hc2 : ¬cond0_2 i) (hc1 : cond0_1 i (tbM0_1.view.readAt (Elt Ideal) (Rect.unit (s := S71) (k0_off1 i) S1.size (k0_off1_inb i)).toLoadRect xt1 (Shape.Idx.first (numel1_S1.symm ▸ Nat.one_pos)))) (y : S512x1024.Idx) :
    sout0_A_0 c i arg4 harg4 arg5 harg5 arg6 harg6 arg7 harg7 arg8 harg8 arg9 harg9 arg10 harg10 hc0 hc2 x0 x1 x2 x3 x4 xt0 xt1 hc1 y = k0_pay2 x0 x2 x3 (k0_pay1 (F := Ideal)) x4 y := by
  frame_out

theorem acc_B (hc0 : cond0_0 i) (hc2 : ¬cond0_2 i) (hc1 : ¬cond0_1 i (tbM0_1.view.readAt (Elt Ideal) (Rect.unit (s := S71) (k0_off1 i) S1.size (k0_off1_inb i)).toLoadRect xt1 (Shape.Idx.first (numel1_S1.symm ▸ Nat.one_pos)))) (y : S512x1024.Idx) :
    sout0_B_0 c i arg4 harg4 arg5 harg5 arg6 harg6 arg7 harg7 arg8 harg8 arg9 harg9 arg10 harg10 hc0 hc2 x0 x1 x2 x3 x4 xt0 xt1 hc1 y = k0_pay1 (F := Ideal) y := by
  frame_out

theorem out_C (hc0 : ¬cond0_0 i) (hc2 : cond0_2 i) (xs0 : Vec Ideal S512x1024 .f32) (hc1 : cond0_1 i (tbM0_1.view.readAt (Elt Ideal) (Rect.unit (s := S71) (k0_off1 i) S1.size (k0_off1_inb i)).toLoadRect xt1 (Shape.Idx.first (numel1_S1.symm ▸ Nat.one_pos)))) (y : S512x1024.Idx) :
    out0_C_5 c i arg4 harg4 arg5 harg5 arg6 harg6 arg7 harg7 arg8 harg8 arg9 harg9 arg10 harg10 hc0 hc2 x0 x1 x2 x3 x4 xt0 xt1 xs0 hc1 y = k0_pay3 (k0_pay2 x0 x2 x3 xs0 x4) (gateCol x1) y := by
  frame_out
  rfl

theorem out_D (hc0 : ¬cond0_0 i) (hc2 : cond0_2 i) (xs0 : Vec Ideal S512x1024 .f32) (hc1 : ¬cond0_1 i (tbM0_1.view.readAt (Elt Ideal) (Rect.unit (s := S71) (k0_off1 i) S1.size (k0_off1_inb i)).toLoadRect xt1 (Shape.Idx.first (numel1_S1.symm ▸ Nat.one_pos)))) (y : S512x1024.Idx) :
    out0_D_5 c i arg4 harg4 arg5 harg5 arg6 harg6 arg7 harg7 arg8 harg8 arg9 harg9 arg10 harg10 hc0 hc2 x0 x1 x2 x3 x4 xt0 xt1 xs0 hc1 y = k0_pay3 xs0 (gateCol x1) y := by
  frame_out
  rfl

end Case

end Cert.EX
-- ==== Proof.EX.Host.lean ====
module

public import proofs.«01_k».proof.Proof.EX.FrameIdeal
public import proofs.«01_k».proof.Proof.EX.Words
public import Idealize.ShloMosaic.Lib.Pipeline.ValueKit
public import Idealize.ShloMosaic.Lib.Pointwise

@[expose] public section

set_option maxRecDepth 16384

noncomputable section

namespace Cert.EX

open Idealize.ShloMosaic Idealize.ShloMosaic.TcCoe Idealize.SL.Sem
open Cert.ExpertsIdeal Cert.ExpertsIdeal.Gen

variable {F : FTy → Type} [FloatOps F]

/-- The rows each expert was given, all blocks together. -/
def countsV (b : Vec F S32x8 .f32) : IVec S8 32 :=
  shapeCast S8 (extractStridedSlice S1x8 ![32, 0]
    (concatenate S33x8 0 [⟨S1x8, broadcastInDim S1x8 ![] bcast_S_S1x8 (constantI S_ 32 0#32)⟩,
      ⟨S32x8, Host.reduceWindow IntOp.addi ![32, 1] ![1, 1] ![31, 0] ![0, 0] (fptosi 32 b)
        (broadcastInDim S_ ![] bcast_S_S_ (constantI S_ 32 0#32)) reduceWindows_S32x8_S32x8_w32s1p31_0_w1s1p0_0 h_S_⟩]
      concatenates_S1x8_S32x8_S33x8_d0) slices_S33x8_S1x8_32_0) shapeCasts_S1x8_S8

/-- Eight words divided by 512, rounded down. -/
def divV (x : IVec S8 32) : IVec S8 32 :=
  select (andi (cmpi .ne (signi x) (broadcastInDim S8 ![] bcast_S_S8 (signi (id (constantI S_ 32 512#32)))))
      (cmpi .ne (Host.remsi x (broadcastInDim S8 ![] bcast_S_S8 (id (constantI S_ 32 512#32)))) (broadcastInDim S8 ![] bcast_S_S8 (constantI S_ 32 0#32))))
    (subi (Host.divsi x (broadcastInDim S8 ![] bcast_S_S8 (id (constantI S_ 32 512#32)))) (broadcastInDim S8 ![] bcast_S_S8 (constantI S_ 32 1#32)))
    (Host.divsi x (broadcastInDim S8 ![] bcast_S_S8 (id (constantI S_ 32 512#32))))

/-- The counts rounded up to whole blocks. -/
def paddedV (n : IVec S8 32) : IVec S8 32 :=
  muli (divV (subi (addi n (broadcastInDim S8 ![] bcast_S_S8 (constantI S_ 32 512#32))) (broadcastInDim S8 ![] bcast_S_S8 (constantI S_ 32 1#32))))
    (broadcastInDim S8 ![] bcast_S_S8 (constantI S_ 32 512#32))

/-- Where each expert's rows end. -/
def endsV (n : IVec S8 32) : IVec S8 32 :=
  Host.reduceWindow IntOp.addi ![8] ![1] ![7] ![0] (paddedV n) (broadcastInDim S_ ![] bcast_S_S_ (constantI S_ 32 0#32)) reduceWindows_S8_S8_w8s1p7_0 h_S_

/-- Where the last expert's rows end. -/
def totalV (e : IVec S8 32) : IVec S_ 32 := shapeCast S_ (extractStridedSlice S1 ![7] e slices_S8_S1_7) shapeCasts_S1_S_

/-- How many tiles hold rows. -/
def tilesV (t : IVec S_ 32) : IVec S_ 32 :=
  select (andi (cmpi .ne (signi t) (signi (id (constantI S_ 32 512#32)))) (cmpi .ne (Host.remsi t (id (constantI S_ 32 512#32))) (constantI S_ 32 0#32)))
    (subi (Host.divsi t (id (constantI S_ 32 512#32))) (constantI S_ 32 1#32)) (Host.divsi t (id (constantI S_ 32 512#32)))

/-- The table of tiles that hold rows. -/
def validV (n : IVec S_ 32) : IVec S71 32 :=
  extui 32 (cmpi .slt (iotaInDim S71 32 0) (broadcastInDim S71 ![] bcast_S_S71 n)) natLt_1_32

/-- Which experts end at or before a tile's first row. -/
def pastV (e : IVec S8 32) (n : IVec S_ 32) : IVec S71x8 1 :=
  cmpi .sge (broadcastInDim S71x8 ![0, 1] bcast_S71x1_S71x8_0_1 (broadcastInDim S71x1 ![0] bcast_S71_S71x1_0
      (muli (maxsi (minsi (iotaInDim S71 32 0) (broadcastInDim S71 ![] bcast_S_S71 (subi n (constantI S_ 32 1#32))))
        (broadcastInDim S71 ![] bcast_S_S71 (constantI S_ 32 0#32))) (broadcastInDim S71 ![] bcast_S_S71 (constantI S_ 32 512#32)))))
    (broadcastInDim S71x8 ![0, 1] bcast_S1x8_S71x8_0_1 (broadcastInDim S1x8 ![1] bcast_S8_S1x8_1 e))

/-- The table of the tiles' experts. -/
def expertV (past : IVec S71x8 1) : IVec S71 32 :=
  minsi (Host.reduce IntOp.addi (extui 32 past natLt_1_32) (constantI S_ 32 0#32) reducesTo_S71x8_S71_d1 h_S_)
    (broadcastInDim S71 ![] bcast_S_S71 (constantI S_ 32 7#32))

section Crossing

theorem of_main_v0 (v : (⟨S32x8, .i32⟩ : BufTy).Contents (Elt F)) : (StableHlo.TRef.of main_v0 : StableHlo.TRef sig ⟨S32x8, .i32⟩).ofBuf v = v := rfl

theorem of_main_v9 (v : (⟨S8, .i32⟩ : BufTy).Contents (Elt F)) : (StableHlo.TRef.of main_v9 : StableHlo.TRef sig ⟨S8, .i32⟩).ofBuf v = v := rfl

theorem of_main_v12 (v : (⟨S8, .i32⟩ : BufTy).Contents (Elt F)) : (StableHlo.TRef.of main_v12 : StableHlo.TRef sig ⟨S8, .i32⟩).ofBuf v = v := rfl

theorem of_main_v15 (v : (⟨S_, .i32⟩ : BufTy).Contents (Elt F)) : (StableHlo.TRef.of main_v15 : StableHlo.TRef sig ⟨S_, .i32⟩).ofBuf v = v := rfl

theorem of_main_c_2 (v : (⟨S_, .i32⟩ : BufTy).Contents (Elt F)) : (StableHlo.TRef.of main_c_2 : StableHlo.TRef sig ⟨S_, .i32⟩).ofBuf v = v := rfl

theorem of_main_c_4 (v : (⟨S_, .i32⟩ : BufTy).Contents (Elt F)) : (StableHlo.TRef.of main_c_4 : StableHlo.TRef sig ⟨S_, .i32⟩).ofBuf v = v := rfl

theorem to_main_v2 (v : (⟨S32x8, .i32⟩ : BufTy).Contents (Elt F)) : (StableHlo.TRef.of main_v2 : StableHlo.TRef sig ⟨S32x8, .i32⟩).toBuf v = v := rfl

theorem to_main_v10 (v : (⟨S8, .i32⟩ : BufTy).Contents (Elt F)) : (StableHlo.TRef.of main_v10 : StableHlo.TRef sig ⟨S8, .i32⟩).toBuf v = v := rfl

theorem to_main_v13 (v : (⟨S8, .i32⟩ : BufTy).Contents (Elt F)) : (StableHlo.TRef.of main_v13 : StableHlo.TRef sig ⟨S8, .i32⟩).toBuf v = v := rfl

theorem to_main_v17 (v : (⟨S_, .i32⟩ : BufTy).Contents (Elt F)) : (StableHlo.TRef.of main_v17 : StableHlo.TRef sig ⟨S_, .i32⟩).toBuf v = v := rfl

end Crossing

section Entry
variable (m : (ℓ : Loc nD τ sig) → Buf (Elt F) ℓ) (c : Dev nD)

/-- The ends computed from the launch contents. -/
abbrev endsOf : IVec S8 32 := endsV (countsV (m ((c : Thread nD τ).loc main_arg0) : Vec F S32x8 .f32))

set_option maxHeartbeats 1600000 in
theorem V_expert : V m c main_v36 = expertV (pastV (endsOf m c) (tilesV (totalV (endsOf m c)))) := by
  unfold V
  simp only [hostOps0, hostOps0_1, hostOps0_2, hostOps0_3, hostOps0_4, hostOps0_5, hostOps0_6, hostOps0_7, hostOps0_8, List.flatten_cons, List.flatten_nil, List.append_nil, List.cons_append,
      List.nil_append]
  entry_read
  simp only [StableHlo.TRef.ofBuf_toBuf, of_main_v0, of_main_v9, of_main_v12, of_main_v15, of_main_c_2, of_main_c_4, to_main_v2, to_main_v10, to_main_v13, to_main_v17]
  unfold expertV pastV endsOf totalV endsV paddedV divV tilesV countsV
  rfl

set_option maxHeartbeats 1600000 in
theorem V_valid : V m c main_v20 = validV (tilesV (totalV (endsOf m c))) := by
  unfold V
  simp only [hostOps0, hostOps0_1, hostOps0_2, hostOps0_3, hostOps0_4, hostOps0_5, hostOps0_6, hostOps0_7, hostOps0_8, List.flatten_cons, List.flatten_nil, List.append_nil, List.cons_append,
      List.nil_append]
  entry_read
  simp only [StableHlo.TRef.ofBuf_toBuf, of_main_v0, of_main_v9, of_main_v12, of_main_v15, of_main_c_2, of_main_c_4, to_main_v2, to_main_v10, to_main_v13, to_main_v17]
  unfold validV endsOf totalV endsV paddedV divV tilesV countsV
  rfl

set_option maxHeartbeats 1600000 in
theorem V_gate : V m c main_v38 = (broadcastInDim S36352x128 ![0, 1] bcast_S36352x1_S36352x128_0_1
    (broadcastInDim S36352x1 ![0] bcast_S36352_S36352x1_0 (m ((c : Thread nD τ).loc main_arg2))) : Vec F S36352x128 .f32) := by
  unfold V
  simp only [hostOps0, hostOps0_1, hostOps0_2, hostOps0_3, hostOps0_4, hostOps0_5, hostOps0_6, hostOps0_7, hostOps0_8, List.flatten_cons, List.flatten_nil, List.append_nil, List.cons_append,
      List.nil_append]
  entry_read
  rfl

set_option maxHeartbeats 1600000 in
theorem V_rows : V m c main_v39 = (truncf .bf16 (m ((c : Thread nD τ).loc main_arg1) : Vec F S36352x1024 .f32) bitsLt_bf16_f32 : Vec F S36352x1024 .bf16) := by
  unfold V
  simp only [hostOps0, hostOps0_1, hostOps0_2, hostOps0_3, hostOps0_4, hostOps0_5, hostOps0_6, hostOps0_7, hostOps0_8, List.flatten_cons, List.flatten_nil, List.append_nil, List.cons_append,
      List.nil_append]
  entry_read
  rfl

set_option maxHeartbeats 1600000 in
theorem V_wg : V m c main_v40 = (truncf .bf16 (m ((c : Thread nD τ).loc main_arg3) : Vec F S8x1024x3584 .f32) bitsLt_bf16_f32 : Vec F S8x1024x3584 .bf16) := by
  unfold V
  simp only [hostOps0, hostOps0_1, hostOps0_2, hostOps0_3, hostOps0_4, hostOps0_5, hostOps0_6, hostOps0_7, hostOps0_8, List.flatten_cons, List.flatten_nil, List.append_nil, List.cons_append,
      List.nil_append]
  entry_read
  rfl

set_option maxHeartbeats 1600000 in
theorem V_wu : V m c main_v41 = (truncf .bf16 (m ((c : Thread nD τ).loc main_arg4) : Vec F S8x1024x3584 .f32) bitsLt_bf16_f32 : Vec F S8x1024x3584 .bf16) := by
  unfold V
  simp only [hostOps0, hostOps0_1, hostOps0_2, hostOps0_3, hostOps0_4, hostOps0_5, hostOps0_6, hostOps0_7, hostOps0_8, List.flatten_cons, List.flatten_nil, List.append_nil, List.cons_append,
      List.nil_append]
  entry_read
  rfl

set_option maxHeartbeats 1600000 in
theorem V_wd : V m c main_v42 = (truncf .bf16 (m ((c : Thread nD τ).loc main_arg5) : Vec F S8x3584x1024 .f32) bitsLt_bf16_f32 : Vec F S8x3584x1024 .bf16) := by
  unfold V
  simp only [hostOps0, hostOps0_1, hostOps0_2, hostOps0_3, hostOps0_4, hostOps0_5, hostOps0_6, hostOps0_7, hostOps0_8, List.flatten_cons, List.flatten_nil, List.append_nil, List.cons_append,
      List.nil_append]
  entry_read
  rfl

end Entry

end Cert.EX
-- ==== Proof.EX.Tables.lean ====
module

public import proofs.«01_k».proof.Proof.EX.Host

@[expose] public section

set_option maxRecDepth 16384

noncomputable section

namespace Cert.EX

open Idealize.ShloMosaic Idealize.ShloMosaic.TcCoe Idealize.ShloMosaic.Routing Idealize.ShloMosaic.WordCmp Idealize.SL.Sem
open Cert.ExpertsIdeal Cert.ExpertsIdeal.Gen

variable {F : FTy → Type} [FloatOps F]

/-- The rows of expert `e`, its blocks added up. -/
def countOf (b : Vec F S32x8 .f32) (e : Fin 8) : BitVec 32 := ∑ w : Fin 32, (fptosi 32 b : IVec S32x8 32) (ix2 w e)

theorem countsV_at (b : Vec F S32x8 .f32) (e : Fin 8) : countsV b (ix1 e) = countOf b e := by
  have h1 : countsV b (ix1 e) = (Host.reduceWindow IntOp.addi ![32, 1] ![1, 1] ![31, 0] ![0, 0] (fptosi 32 b)
        (broadcastInDim S_ ![] bcast_S_S_ (constantI S_ 32 0#32)) reduceWindows_S32x8_S32x8_w32s1p31_0_w1s1p0_0 h_S_ : IVec S32x8 32) (ix2 31 e) := by
    unfold countsV
    generalize (Host.reduceWindow IntOp.addi ![32, 1] ![1, 1] ![31, 0] ![0, 0] (fptosi 32 b)
        (broadcastInDim S_ ![] bcast_S_S_ (constantI S_ 32 0#32)) reduceWindows_S32x8_S32x8_w32s1p31_0_w1s1p0_0 h_S_ : IVec S32x8 32) = x
    pointwise
  rw [h1]
  refine (cumsum_rows_sum (A := 32) (Am1 := 31) (N := 8) rfl (fptosi 32 b) _ rfl reduceWindows_S32x8_S32x8_w32s1p31_0_w1s1p0_0 h_S_ 31 e).trans ?_
  exact Finset.sum_congr rfl fun w _ => if_pos (by omega)

theorem add_sub_one (w : BitVec 32) : IntOp.subi (IntOp.addi w 512#32) 1#32 = IntOp.addi w 511#32 := by
  unfold IntOp.subi IntOp.addi
  bv_omega

theorem divV_at (x : IVec S8 32) (e : Fin 8) : divV x (ix1 e) = divFloor (x (ix1 e)) := rfl

theorem paddedV_at (n : IVec S8 32) (e : Fin 8) : paddedV n (ix1 e) = IntOp.muli (divFloor (IntOp.addi (n (ix1 e)) 511#32)) 512#32 := by
  rw [← add_sub_one]
  rfl

theorem endsV_at (n : IVec S8 32) (e : Fin 8) : endsV n (ix1 e) = ends (fun e => n (ix1 e)) e := by
  refine (cumsum_vec (N := 8) (Nm1 := 7) rfl (paddedV n) _ rfl reduceWindows_S8_S8_w8s1p7_0 h_S_ e).trans ?_
  exact Finset.sum_congr rfl fun e' _ => congrArg (fun z => if e' ≤ e then z else 0) (paddedV_at n e')

theorem totalV_at (x : IVec S8 32) (i : S_.Idx) : totalV x i = x (ix1 7) := by
  unfold totalV
  pointwise

theorem tilesV_at (t : IVec S_ 32) (i : S_.Idx) : tilesV t i = divFloor (t i) := rfl

theorem validV_at (n : IVec S_ 32) (i : Fin 71) : validV n (ix1 i) = (IntOp.cmpi .slt (BitVec.ofNat 32 i.val) (n ix0)).setWidth 32 := by
  unfold validV
  pointwise

theorem pastV_at (e : IVec S8 32) (n : IVec S_ 32) (i : Fin 71) (q : Fin 8) : pastV e n (ix2 i q) =
    IntOp.cmpi .sge (IntOp.muli (IntOp.maxsi (IntOp.minsi (BitVec.ofNat 32 i.val) (IntOp.subi (n ix0) 1#32)) 0#32) 512#32) (e (ix1 q)) := by
  unfold pastV
  pointwise

theorem expertV_at (past : IVec S71x8 1) (i : Fin 71) (Q : ℕ → Prop) [DecidablePred Q] (hQ : ∀ q : Fin 8, past (ix2 i q) = 1#1 ↔ Q q.val) :
    expertV past (ix1 i) = IntOp.minsi (BitVec.ofNat 32 (Nat.count Q 8)) 7#32 := by
  have hr : (Host.reduce IntOp.addi (extui 32 past natLt_1_32) (constantI S_ 32 0#32) reducesTo_S71x8_S71_d1 h_S_ : IVec S71 32) (ix1 i)
      = BitVec.ofNat 32 (Nat.count Q 8) :=
    reduce_count (n := 71) (m := 8) (by norm_num) past natLt_1_32 reducesTo_S71x8_S71_d1 h_S_ i Q hQ
  rw [← hr]
  rfl

/-- The last row of each expert, from the blocks' counts. -/
def lastOf (b : Vec F S32x8 .f32) : Fin 8 → BitVec 32 := ends (countOf b)

theorem lastOf_dvd (b : Vec F S32x8 .f32) (e : Fin 8) : (512 : ℤ) ∣ (lastOf b e).toInt := ends_dvd _ _

section Entry
variable (m : (ℓ : Loc nD τ sig) → Buf (Elt F) ℓ) (c : Dev nD)

/-- The block counts given. -/
abbrev argCounts : Vec F S32x8 .f32 := m ((c : Thread nD τ).loc main_arg0)

theorem endsOf_at (e : Fin 8) : endsOf m c (ix1 e) = lastOf (argCounts m c) e := by
  unfold endsOf
  rw [endsV_at]
  unfold lastOf
  exact congrArg (fun n => ends n e) (funext fun e' => countsV_at _ e')

theorem tiles_at (i : S_.Idx) : tilesV (totalV (endsOf m c)) i = divFloor (lastOf (argCounts m c) 7) := by
  rw [tilesV_at, totalV_at, endsOf_at]

/-- A tile holds rows when it starts before the last row. -/
theorem valid_at (i : Fin 71) : (V m c main_v20 : IVec S71 32) (ix1 i) = (BitVec.ofBool (decide ((i.val : ℤ) * 512 < (lastOf (argCounts m c) 7).toInt))).setWidth 32 := by
  rw [V_valid, validV_at, tiles_at, valid_word _ (lastOf_dvd _ _) _ i.isLt]

/-- The expert of a tile that holds rows is the owner of its first row. -/
theorem expert_at (i : Fin 71) (h : (i.val : ℤ) * 512 < (lastOf (argCounts m c) 7).toInt) :
    ((V m c main_v36 : IVec S71 32) (ix1 i)).toNat = (owner (lastOf (argCounts m c)) ((i.val : ℤ) * 512)).val := by
  rw [V_expert, expertV_at _ i (fun q => ∃ h : q < 8, (lastOf (argCounts m c) ⟨q, h⟩).toInt ≤ (i.val : ℤ) * 512) fun q => ?_]
  · exact min_word _ (Nat.count_le _)
  · rw [pastV_at, tiles_at, endsOf_at, cmpi_sge_eq, src_word _ (lastOf_dvd _ _) _ i.isLt h]
    constructor
    · intro e
      refine ⟨q.isLt, ?_⟩
      by_contra hc
      rw [decide_eq_false hc] at e
      exact absurd e (by decide)
    · rintro ⟨_, e⟩
      rw [decide_eq_true e]
      rfl

end Entry

end Cert.EX
-- ==== Proof.EX.Blocks.lean ====
module

public import proofs.«01_k».proof.Proof.EX.Payload
public import proofs.«01_k».proof.Proof.EX.Tables
public import proofs.«01_k».proof.Proof.EX.RangeIdeal

@[expose] public section

set_option maxRecDepth 16384

noncomputable section

namespace Cert.EX

open Idealize.ShloMosaic Idealize.ShloMosaic.TcCoe Idealize.SL.Sem
open Cert.ExpertsIdeal Cert.ExpertsIdeal.Gen

/-- The tile of a grid point. -/
def tileOf (n : ℕ) : Fin 71 := ⟨n / 2 % 71, by omega⟩

/-- The half of the hidden numbers of a grid point. -/
def halfOf (n : ℕ) : Fin 2 := ⟨n % 2, by omega⟩

section Index
variable {F : FTy → Type} [FloatOps F]

theorem coords_tile (t : Fin grid0.N) : grid0.coords t 0 = tileOf t.val :=
  Fin.ext (Pipeline.Grid.coords_val t 0 (by decide) rfl)

theorem coords_half (t : Fin grid0.N) : grid0.coords t 1 = halfOf t.val :=
  Fin.ext ((Pipeline.Grid.coords_val (S := 1) t 1 (by decide) rfl).trans (by simp [halfOf]))

theorem word_tile (i : Fin 71) : (BitVec.ofNat 32 i.val).toNat = i.val := by
  rw [BitVec.toNat_ofNat]
  omega

theorem word_half (i : Fin 2) : (BitVec.ofNat 32 i.val).toNat = i.val := by
  rw [BitVec.toNat_ofNat]
  omega

/-- The element of a table that a grid point reads. -/
theorem table_emb (i : grid0.Coords) :
    (Rect.unit (s := S71) (k0_off1 i) S1.size (k0_off1_inb i)).emb (Shape.Idx.first (numel1_S1.symm ▸ Nat.one_pos)) = ix1 (i 0) := by
  funext a
  fin_cases a
  refine Fin.ext ?_
  show (k0_off1 i) 0 + 0 * 1 = (i 0).val
  have h : (k0_off1 i) 0 = (BitVec.ofNat 32 (i 0).val).toNat := rfl
  rw [h, word_tile (i 0)]
  omega

theorem trans_rows (i : grid0.Coords) : cc0_transform_0 i = ![(i 0).val, 0] := by
  have h : cc0_transform_0 i = ![(BitVec.ofNat 32 (i 0).val).toNat, 0] := rfl
  rw [h, word_tile (i 0)]

theorem trans_gate (i : grid0.Coords) : cc0_transform_1 i = ![(i 0).val, 0] := by
  have h : cc0_transform_1 i = ![(BitVec.ofNat 32 (i 0).val).toNat, 0] := rfl
  rw [h, word_tile (i 0)]

theorem trans_out (i : grid0.Coords) : cc0_transform_5 i = ![(i 0).val, 0] := by
  have h : cc0_transform_5 i = ![(BitVec.ofNat 32 (i 0).val).toNat, 0] := rfl
  rw [h, word_tile (i 0)]

/-- On a tile whose entry of the second table is one the half of the grid point is taken. -/
theorem select_half (w : BitVec 32) (h : w = 1#32) (j : Fin 2) :
    (Scalar.select (Scalar.cmpi .eq w 1#32) (BitVec.ofNat 32 j.val) 1#32 : BitVec 32).toNat = j.val := by
  subst h
  fin_cases j <;> decide

theorem trans_wg (pf : pre0.Contents (Elt F)) (i : grid0.Coords) (h : (pf 1 (ix1 (i 0)) : BitVec 32) = 1#32) :
    cc0_transform_2 k0_off1_inb numel1_S1 pf i = ![(pf 0 (ix1 (i 0)) : BitVec 32).toNat, 0, (i 1).val] := by
  have e : cc0_transform_2 k0_off1_inb numel1_S1 pf i
      = ![(pf 0 ((Rect.unit (s := S71) (k0_off1 i) S1.size (k0_off1_inb i)).emb (Shape.Idx.first (numel1_S1.symm ▸ Nat.one_pos))) : BitVec 32).toNat, 0,
        (Scalar.select (Scalar.cmpi .eq (pf 1 ((Rect.unit (s := S71) (k0_off1 i) S1.size (k0_off1_inb i)).emb (Shape.Idx.first (numel1_S1.symm ▸ Nat.one_pos))) : BitVec 32) 1#32) (BitVec.ofNat 32 (i 1).val) 1#32 : BitVec 32).toNat] := rfl
  rw [e, table_emb]
  exact congrArg (fun n : ℕ => ![(pf 0 (ix1 (i 0)) : BitVec 32).toNat, 0, n]) (select_half _ h (i 1))

theorem trans_wu (pf : pre0.Contents (Elt F)) (i : grid0.Coords) (h : (pf 1 (ix1 (i 0)) : BitVec 32) = 1#32) :
    cc0_transform_3 k0_off1_inb numel1_S1 pf i = ![(pf 0 (ix1 (i 0)) : BitVec 32).toNat, 0, (i 1).val] := trans_wg pf i h

theorem trans_wd (pf : pre0.Contents (Elt F)) (i : grid0.Coords) (h : (pf 1 (ix1 (i 0)) : BitVec 32) = 1#32) :
    cc0_transform_4 k0_off1_inb numel1_S1 pf i = ![(pf 0 (ix1 (i 0)) : BitVec 32).toNat, (i 1).val, 0] := by
  have e : cc0_transform_4 k0_off1_inb numel1_S1 pf i
      = ![(pf 0 ((Rect.unit (s := S71) (k0_off1 i) S1.size (k0_off1_inb i)).emb (Shape.Idx.first (numel1_S1.symm ▸ Nat.one_pos))) : BitVec 32).toNat,
        (Scalar.select (Scalar.cmpi .eq (pf 1 ((Rect.unit (s := S71) (k0_off1 i) S1.size (k0_off1_inb i)).emb (Shape.Idx.first (numel1_S1.symm ▸ Nat.one_pos))) : BitVec 32) 1#32) (BitVec.ofNat 32 (i 1).val) 1#32 : BitVec 32).toNat, 0] := rfl
  rw [e, table_emb]
  exact congrArg (fun n : ℕ => ![(pf 0 (ix1 (i 0)) : BitVec 32).toNat, n, 0]) (select_half _ h (i 1))

variable (a : (pcfg0 (F := F)).Adm)

theorem index_rows (t : Fin (cfg0 a).N) : ((cfg0 a).win 0).index t = ![(tileOf t.val).val, 0] := by
  have h : ((cfg0 a).win 0).index t = cc0_transform_0 (grid0.coords t) := rfl
  rw [h, trans_rows, coords_tile]

theorem index_gate (t : Fin (cfg0 a).N) : ((cfg0 a).win 1).index t = ![(tileOf t.val).val, 0] := by
  have h : ((cfg0 a).win 1).index t = cc0_transform_1 (grid0.coords t) := rfl
  rw [h, trans_gate, coords_tile]

theorem index_out (t : Fin (cfg0 a).N) : ((cfg0 a).win 5).index t = ![(tileOf t.val).val, 0] := by
  have h : ((cfg0 a).win 5).index t = cc0_transform_5 (grid0.coords t) := rfl
  rw [h, trans_out, coords_tile]

theorem index_wg (t : Fin (cfg0 a).N) (hv : (a.1 1 (ix1 (tileOf t.val)) : BitVec 32) = 1#32) :
    ((cfg0 a).win 2).index t = ![(a.1 0 (ix1 (tileOf t.val)) : BitVec 32).toNat, 0, (halfOf t.val).val] := by
  have h : ((cfg0 a).win 2).index t = cc0_transform_2 k0_off1_inb numel1_S1 a.1 (grid0.coords t) := rfl
  rw [h, trans_wg a.1 _ (by rw [coords_tile]; exact hv), coords_tile, coords_half]

theorem index_wu (t : Fin (cfg0 a).N) (hv : (a.1 1 (ix1 (tileOf t.val)) : BitVec 32) = 1#32) :
    ((cfg0 a).win 3).index t = ![(a.1 0 (ix1 (tileOf t.val)) : BitVec 32).toNat, 0, (halfOf t.val).val] := by
  have h : ((cfg0 a).win 3).index t = cc0_transform_3 k0_off1_inb numel1_S1 a.1 (grid0.coords t) := rfl
  rw [h, trans_wu a.1 _ (by rw [coords_tile]; exact hv), coords_tile, coords_half]

theorem index_wd (t : Fin (cfg0 a).N) (hv : (a.1 1 (ix1 (tileOf t.val)) : BitVec 32) = 1#32) :
    ((cfg0 a).win 4).index t = ![(a.1 0 (ix1 (tileOf t.val)) : BitVec 32).toNat, (halfOf t.val).val, 0] := by
  have h : ((cfg0 a).win 4).index t = cc0_transform_4 k0_off1_inb numel1_S1 a.1 (grid0.coords t) := rfl
  rw [h, trans_wd a.1 _ (by rw [coords_tile]; exact hv), coords_tile, coords_half]

theorem index_wg_of (t : Fin (cfg0 a).N) (hv : (a.1 1 (ix1 (tileOf t.val)) : BitVec 32) = 1#32) (w : BitVec 32)
    (hw : (a.1 0 (ix1 (tileOf t.val)) : BitVec 32) = w) (e : ℕ) (he : w.toNat = e) : ((cfg0 a).win 2).index t = ![e, 0, (halfOf t.val).val] := by
  subst he hw
  exact index_wg a t hv

theorem index_wu_of (t : Fin (cfg0 a).N) (hv : (a.1 1 (ix1 (tileOf t.val)) : BitVec 32) = 1#32) (w : BitVec 32)
    (hw : (a.1 0 (ix1 (tileOf t.val)) : BitVec 32) = w) (e : ℕ) (he : w.toNat = e) : ((cfg0 a).win 3).index t = ![e, 0, (halfOf t.val).val] := by
  subst he hw
  exact index_wu a t hv

theorem index_wd_of (t : Fin (cfg0 a).N) (hv : (a.1 1 (ix1 (tileOf t.val)) : BitVec 32) = 1#32) (w : BitVec 32)
    (hw : (a.1 0 (ix1 (tileOf t.val)) : BitVec 32) = w) (e : ℕ) (he : w.toNat = e) : ((cfg0 a).win 4).index t = ![e, (halfOf t.val).val, 0] := by
  subst he hw
  exact index_wd a t hv

theorem cond_word (i : grid0.Coords) (w : BitVec 32) : cond0_1 i w ↔ w = 1#32 := by
  show (Scalar.cmpi .ne (Scalar.extui (Scalar.cmpi .eq w 1#32)) 0#32) = 1#1 ↔ w = 1#32
  by_cases h : w = 1#32
  · subst h
    decide
  · have e : Scalar.cmpi .eq w 1#32 = 0#1 := by
      show BitVec.ofBool (w == 1#32) = 0#1
      rw [beq_eq_false_iff_ne.mpr h]
      rfl
    rw [e]
    constructor
    · intro h'
      exact absurd h' (by decide)
    · intro h'
      exact absurd h' h

theorem word_read (c : Dev nD) (tb : TbBuf0 (F := F) c tbM0_1) (i : grid0.Coords) :
    (tbM0_1.view.readAt (Elt F) (Rect.unit (s := S71) (k0_off1 i) S1.size (k0_off1_inb i)).toLoadRect tb (Shape.Idx.first (numel1_S1.symm ▸ Nat.one_pos)) : BitVec 32)
      = tb ((Rect.unit (s := S71) (k0_off1 i) S1.size (k0_off1_inb i)).emb (Shape.Idx.first (numel1_S1.symm ▸ Nat.one_pos))) := rfl

end Index

end Cert.EX
-- ==== Proof.EX.Result.lean ====
module

public import proofs.«01_k».proof.Proof.EX.Spec
public import proofs.«01_k».proof.Proof.EX.Tables

@[expose] public section

set_option maxRecDepth 16384

noncomputable section

namespace Cert.EX

open Idealize.ShloMosaic Idealize.ShloMosaic.TcCoe Idealize.SL.Sem

/-- The answer of one expert for one row. -/
def answer (x : Vec Ideal ⟨2, ![36352, 1024]⟩ .f32) (wg wu : Vec Ideal ⟨3, ![8, 1024, 3584]⟩ .f32) (wd : Vec Ideal ⟨3, ![8, 3584, 1024]⟩ .f32)
    (e : Fin 8) (r : Fin 36352) (d : Fin 1024) : EReal :=
  expertRow (fun k => x (ix2 r k)) (fun k f => wg (ix3 e k f)) (fun k f => wu (ix3 e k f)) (fun f => wd (ix3 e f d))

/-- The experts' answers, gated, as one array: a row below the last end belongs to its owner, a row past it is zero. -/
def result (b : Vec Ideal ⟨2, ![32, 8]⟩ .f32) (x : Vec Ideal ⟨2, ![36352, 1024]⟩ .f32) (g : Vec Ideal ⟨1, ![36352]⟩ .f32)
    (wg wu : Vec Ideal ⟨3, ![8, 1024, 3584]⟩ .f32) (wd : Vec Ideal ⟨3, ![8, 3584, 1024]⟩ .f32) : Vec Ideal ⟨2, ![36352, 1024]⟩ .bf16 := fun i =>
  (if ((i 0).val : ℤ) < (lastOf b 7).toInt then answer x wg wu wd (owner (lastOf b) ((i 0).val : ℤ)) (i 0) (i 1) * g (ix1 (i 0)) else 0 : EReal)

theorem result_at (b : Vec Ideal ⟨2, ![32, 8]⟩ .f32) (x : Vec Ideal ⟨2, ![36352, 1024]⟩ .f32) (g : Vec Ideal ⟨1, ![36352]⟩ .f32)
    (wg wu : Vec Ideal ⟨3, ![8, 1024, 3584]⟩ .f32) (wd : Vec Ideal ⟨3, ![8, 3584, 1024]⟩ .f32) (r : Fin 36352) (d : Fin 1024) :
    result b x g wg wu wd (ix2 r d)
      = (if (r.val : ℤ) < (lastOf b 7).toInt then answer x wg wu wd (owner (lastOf b) (r.val : ℤ)) r d * g (ix1 r) else 0 : EReal) := rfl

end Cert.EX
-- ==== Proof.EX.KernelBlocks.lean ====
module

public import proofs.«01_k».proof.Proof.EX.Blocks
public import proofs.«01_k».proof.Proof.EX.Result

@[expose] public section

set_option maxRecDepth 16384

noncomputable section

namespace Cert.EX

open Idealize.ShloMosaic Idealize.ShloMosaic.TcCoe Idealize.SL.Sem
open Cert.ExpertsIdeal Cert.ExpertsIdeal.Gen

variable (m : (ℓ : Loc nD τ sig) → Buf (Elt Ideal) ℓ) (c : Dev nD)

/-- The row of the array that a tile's row is. -/
def rowOf (i : Fin 71) (s : Fin 512) : Fin 36352 := ⟨i.val * 512 + s.val, by omega⟩

/-- The hidden number that a half's hidden number is. -/
def hiddenOf (j : Fin 2) (f : Fin 1792) : Fin 3584 := ⟨j.val * 1792 + f.val, by omega⟩

/-- The tile holds rows. -/
abbrev Live (i : Fin 71) : Prop := (i.val : ℤ) * 512 < (lastOf (argCounts m c) 7).toInt

/-- The expert of a tile. -/
abbrev expertOf (i : Fin 71) : Fin 8 := owner (lastOf (argCounts m c)) ((i.val : ℤ) * 512)

theorem table_valid : (tbl m 1 : IVec S71 32) = (V m c main_v20 : IVec S71 32) := (V_pre m c 1).symm

theorem table_expert : (tbl m 0 : IVec S71 32) = (V m c main_v36 : IVec S71 32) := (V_pre m c 0).symm

theorem word_one (p : Prop) [Decidable p] : ((BitVec.ofBool (decide p)).setWidth 32 : BitVec 32) = 1#32 ↔ p := by
  by_cases h : p
  · simp [h]
  · simp [h]

theorem live_iff (i : Fin 71) : ((tbl m 1 : IVec S71 32) (ix1 i) : BitVec 32) = 1#32 ↔ Live m c i := by
  rw [table_valid m c, valid_at]
  exact word_one _

theorem table_word (i : Fin 71) : ((tbl m 0 : IVec S71 32) (ix1 i) : BitVec 32) = (V m c main_v36 : IVec S71 32) (ix1 i) :=
  congrFun (table_expert m c) _

variable (hO : Ok m)

theorem block_rows (t : Fin (cfgM m hO).N) (s : Fin 512) (k : Fin 1024) :
    (iblk m hO c 0 t : Vec Ideal S512x1024 .bf16) (ix2 s k) = (m ((c : Thread nD τ).loc main_arg1) : Vec Ideal S36352x1024 .f32) (ix2 (rowOf (tileOf t.val) s) k) := by
  have e : (iblk m hO c 0 t : Vec Ideal S512x1024 .bf16) (ix2 s k) = V m c main_v39 (ix2 (rowOf (tileOf t.val) s) k) := by
    blk_simp [iblk]
    congr 1
    blk_ext [index_rows (adm m hO) t, rowOf]
  rw [e, V_rows]
  rfl

theorem block_gate (t : Fin (cfgM m hO).N) (s : Fin 512) :
    (iblk m hO c 1 t : Vec Ideal S512x128 .f32) (ix2 s 0) = (m ((c : Thread nD τ).loc main_arg2) : Vec Ideal S36352 .f32) (ix1 (rowOf (tileOf t.val) s)) := by
  have e : (iblk m hO c 1 t : Vec Ideal S512x128 .f32) (ix2 s 0) = V m c main_v38 (ix2 (rowOf (tileOf t.val) s) (0 : Fin 128)) := by
    blk_simp [iblk]
    congr 1
    blk_ext [index_gate (adm m hO) t, rowOf]
  rw [e, V_gate]
  generalize (m ((c : Thread nD τ).loc main_arg2) : Vec Ideal S36352 .f32) = g
  pointwise

theorem at_wg (i : S8x1024x3584.Idx) : (V m c main_v40 : Vec Ideal S8x1024x3584 .bf16) i = (m ((c : Thread nD τ).loc main_arg3) : Vec Ideal S8x1024x3584 .f32) i := by
  rw [V_wg]
  rfl

theorem read_wg (t : Fin (cfgM m hO).N) (e : Fin 8) (j : Fin 2) (hx : ((cfgM m hO).win 2).index t = ![e.val, 0, j.val]) (k : Fin 1024) (f : Fin 1792) :
    (iblk m hO c 2 t : Vec Ideal S1x1024x1792 .bf16) (ix3 0 k f) = V m c main_v40 (ix3 e k (hiddenOf j f)) := by
  blk_simp [iblk]
  congr 1
  blk_ext [hx, hiddenOf]

theorem block_wg (t : Fin (cfgM m hO).N) (h : Live m c (tileOf t.val)) (k : Fin 1024) (f : Fin 1792) :
    (iblk m hO c 2 t : Vec Ideal S1x1024x1792 .bf16) (ix3 0 k f)
      = (m ((c : Thread nD τ).loc main_arg3) : Vec Ideal S8x1024x3584 .f32) (ix3 (expertOf m c (tileOf t.val)) k (hiddenOf (halfOf t.val) f)) := by
  have hx : ((cfgM m hO).win 2).index t = ![(expertOf m c (tileOf t.val)).val, 0, (halfOf t.val).val] :=
    index_wg_of (adm m hO) t ((live_iff m c _).mpr h) _ (table_word m c (tileOf t.val)) _ (expert_at m c (tileOf t.val) h)
  exact (read_wg m c hO t _ _ hx k f).trans (at_wg m c _)

theorem at_wu (i : S8x1024x3584.Idx) : (V m c main_v41 : Vec Ideal S8x1024x3584 .bf16) i = (m ((c : Thread nD τ).loc main_arg4) : Vec Ideal S8x1024x3584 .f32) i := by
  rw [V_wu]
  rfl

theorem read_wu (t : Fin (cfgM m hO).N) (e : Fin 8) (j : Fin 2) (hx : ((cfgM m hO).win 3).index t = ![e.val, 0, j.val]) (k : Fin 1024) (f : Fin 1792) :
    (iblk m hO c 3 t : Vec Ideal S1x1024x1792 .bf16) (ix3 0 k f) = V m c main_v41 (ix3 e k (hiddenOf j f)) := by
  blk_simp [iblk]
  congr 1
  blk_ext [hx, hiddenOf]

theorem block_wu (t : Fin (cfgM m hO).N) (h : Live m c (tileOf t.val)) (k : Fin 1024) (f : Fin 1792) :
    (iblk m hO c 3 t : Vec Ideal S1x1024x1792 .bf16) (ix3 0 k f)
      = (m ((c : Thread nD τ).loc main_arg4) : Vec Ideal S8x1024x3584 .f32) (ix3 (expertOf m c (tileOf t.val)) k (hiddenOf (halfOf t.val) f)) := by
  have hx : ((cfgM m hO).win 3).index t = ![(expertOf m c (tileOf t.val)).val, 0, (halfOf t.val).val] :=
    index_wu_of (adm m hO) t ((live_iff m c _).mpr h) _ (table_word m c (tileOf t.val)) _ (expert_at m c (tileOf t.val) h)
  exact (read_wu m c hO t _ _ hx k f).trans (at_wu m c _)

theorem at_wd (i : S8x3584x1024.Idx) : (V m c main_v42 : Vec Ideal S8x3584x1024 .bf16) i = (m ((c : Thread nD τ).loc main_arg5) : Vec Ideal S8x3584x1024 .f32) i := by
  rw [V_wd]
  rfl

theorem read_wd (t : Fin (cfgM m hO).N) (e : Fin 8) (j : Fin 2) (hx : ((cfgM m hO).win 4).index t = ![e.val, j.val, 0]) (f : Fin 1792) (d : Fin 1024) :
    (iblk m hO c 4 t : Vec Ideal S1x1792x1024 .bf16) (ix3 0 f d) = V m c main_v42 (ix3 e (hiddenOf j f) d) := by
  blk_simp [iblk]
  congr 1
  blk_ext [hx, hiddenOf]

theorem block_wd (t : Fin (cfgM m hO).N) (h : Live m c (tileOf t.val)) (f : Fin 1792) (d : Fin 1024) :
    (iblk m hO c 4 t : Vec Ideal S1x1792x1024 .bf16) (ix3 0 f d)
      = (m ((c : Thread nD τ).loc main_arg5) : Vec Ideal S8x3584x1024 .f32) (ix3 (expertOf m c (tileOf t.val)) (hiddenOf (halfOf t.val) f) d) := by
  have hx : ((cfgM m hO).win 4).index t = ![(expertOf m c (tileOf t.val)).val, (halfOf t.val).val, 0] :=
    index_wd_of (adm m hO) t ((live_iff m c _).mpr h) _ (table_word m c (tileOf t.val)) _ (expert_at m c (tileOf t.val) h)
  exact (read_wd m c hO t _ _ hx f d).trans (at_wd m c _)

end Cert.EX
-- ==== Proof.EX.Kernel.lean ====
module

public import proofs.«01_k».proof.Proof.EX.KernelBlocks

@[expose] public section

set_option maxRecDepth 16384

noncomputable section

namespace Cert.EX

open Idealize.ShloMosaic Idealize.ShloMosaic.TcCoe Idealize.SL.Sem
open Cert.ExpertsIdeal Cert.ExpertsIdeal.Gen

theorem halfRow_congr {x x' : Fin 1024 → EReal} {g g' u u' : Fin 1024 → Fin 1792 → EReal} {d d' : Fin 1792 → EReal}
    (hx : ∀ k, x k = x' k) (hg : ∀ k f, g k f = g' k f) (hu : ∀ k f, u k f = u' k f) (hd : ∀ f, d f = d' f) :
    halfRow x g u d = halfRow x' g' u' d' := by
  rw [funext hx, funext fun k => funext (hg k), funext fun k => funext (hu k), funext hd]

variable (m : (ℓ : Loc nD τ sig) → Buf (Elt Ideal) ℓ) (c : Dev nD) (hO : Ok m)

/-- Half `j` of the answer of a tile's expert for one of its rows. -/
def halfAnswer (i : Fin 71) (j : Fin 2) (s : Fin 512) (d : Fin 1024) : EReal :=
  halfRow (fun k => (m ((c : Thread nD τ).loc main_arg1) : Vec Ideal S36352x1024 .f32) (ix2 (rowOf i s) k))
    (fun k f => (m ((c : Thread nD τ).loc main_arg3) : Vec Ideal S8x1024x3584 .f32) (ix3 (expertOf m c i) k (hiddenOf j f)))
    (fun k f => (m ((c : Thread nD τ).loc main_arg4) : Vec Ideal S8x1024x3584 .f32) (ix3 (expertOf m c i) k (hiddenOf j f)))
    (fun f => (m ((c : Thread nD τ).loc main_arg5) : Vec Ideal S8x3584x1024 .f32) (ix3 (expertOf m c i) (hiddenOf j f) d))

/-- The body works on a tile exactly when it holds rows. -/
theorem branch_iff (t : Fin (cfgM m hO).N) :
    cond0_1 (grid0.coords t) (tbM0_1.view.readAt (Elt Ideal) (Rect.unit (s := S71) (k0_off1 (grid0.coords t)) S1.size (k0_off1_inb (grid0.coords t))).toLoadRect (tbl m 1) (Shape.Idx.first (numel1_S1.symm ▸ Nat.one_pos)))
      ↔ Live m c (tileOf t.val) :=
  (cond_word _ _).trans ((iff_of_eq (congrArg (fun w : BitVec 32 => w = 1#32) ((word_read c (tbl m 1) (grid0.coords t)).trans
    (congrArg (tbl m 1 : IVec S71 32) ((table_emb _).trans (congrArg ix1 (coords_tile t))))))).trans (live_iff m c (tileOf t.val)))

/-- What a live tile's point adds to the accumulator. -/
theorem step_live (t : Fin (cfgM m hO).N) (h : Live m c (tileOf t.val)) (a : Vec Ideal S512x1024 .f32) (s : Fin 512) (d : Fin 1024) :
    k0_pay2 (iblk m hO c 0 t : Vec Ideal S512x1024 .bf16) (iblk m hO c 2 t : Vec Ideal S1x1024x1792 .bf16) (iblk m hO c 3 t : Vec Ideal S1x1024x1792 .bf16) a
      (iblk m hO c 4 t : Vec Ideal S1x1792x1024 .bf16) (ix2 s d) = (a (ix2 s d) + halfAnswer m c (tileOf t.val) (halfOf t.val) s d : EReal) :=
  (pay_half _ _ _ a _ s d).trans (congrArg (fun z : EReal => a (ix2 s d) + z)
    (halfRow_congr (block_rows m c hO t s) (block_wg m c hO t h) (block_wu m c hO t h) fun f => block_wd m c hO t h f d))

theorem acc_live (t : Fin (cfgM m hO).N) (hp : t.val % 2 = 0) (h : Live m c (tileOf t.val)) (s : Fin 512) (d : Fin 1024) :
    (outsAt0 m hO c t.val t.isLt).2 (ix2 s d) = halfAnswer m c (tileOf t.val) (halfOf t.val) s d := by
  rw [outsAt0_A m hO c t hp ((branch_iff m c hO t).mpr h) (by omega)]
  dsimp only
  refine (acc_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (tbl m 1) ((hcond0_0 t).mpr hp) (fun h' => absurd ((hcond0_2 t).mp h') (by omega)) ((branch_iff m c hO t).mpr h) (ix2 s d)).trans ?_
  refine (step_live m c hO t h _ s d).trans ?_
  rw [pay_zero, zero_add]

theorem acc_dead (t : Fin (cfgM m hO).N) (hp : t.val % 2 = 0) (h : ¬Live m c (tileOf t.val)) (s : Fin 512) (d : Fin 1024) :
    (outsAt0 m hO c t.val t.isLt).2 (ix2 s d) = (0 : EReal) := by
  rw [outsAt0_B m hO c t hp (fun h' => h ((branch_iff m c hO t).mp h')) (by omega)]
  dsimp only
  refine (acc_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (tbl m 1) ((hcond0_0 t).mpr hp) (fun h' => absurd ((hcond0_2 t).mp h') (by omega)) (fun h' => h ((branch_iff m c hO t).mp h')) (ix2 s d)).trans ?_
  exact pay_zero _

theorem out_live (t : Fin (cfgM m hO).N) (hp : t.val % 2 = 1) (h : Live m c (tileOf t.val)) (s : Fin 512) (d : Fin 1024) :
    (outsAt0 m hO c t.val t.isLt).1 (ix2 s d)
      = ((halfAnswer m c (tileOf t.val) 0 s d + halfAnswer m c (tileOf t.val) 1 s d) * (m ((c : Thread nD τ).loc main_arg2) : Vec Ideal S36352 .f32) (ix1 (rowOf (tileOf t.val) s)) : EReal) := by
  rw [outsAt0_C m hO c t (by omega) ((branch_iff m c hO t).mpr h) hp]
  dsimp only
  refine (out_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (tbl m 1) (fun h' => absurd ((hcond0_0 t).mp h') (by omega)) ((hcond0_2 t).mpr hp) (outsAt0 m hO c (t.val - 1) (Nat.lt_of_le_of_lt (Nat.sub_le _ _) t.isLt)).2 ((branch_iff m c hO t).mpr h) (ix2 s d)).trans ?_
  refine (pay_gate _ _ s d).trans ?_
  have ht : tileOf (t.val - 1) = tileOf t.val := Fin.ext (by simp only [tileOf]; omega)
  have h0 : halfOf (t.val - 1) = 0 := Fin.ext (by simp only [halfOf]; omega)
  have h1 : halfOf t.val = 1 := Fin.ext (by simp only [halfOf]; omega)
  have e := acc_live m c hO ⟨t.val - 1, Nat.lt_of_le_of_lt (Nat.sub_le _ _) t.isLt⟩ (by show (t.val - 1) % 2 = 0; omega) (by rw [ht]; exact h) s d
  refine congrArg₂ (fun y z : EReal => y * z) ((step_live m c hO t h _ s d).trans ?_) ((gateCol_at (iblk m hO c 1 t) s).trans (block_gate m c hO t s))
  exact congrArg₂ (fun y z : EReal => y + z) (e.trans (by show halfAnswer m c (tileOf (t.val - 1)) (halfOf (t.val - 1)) s d = _; rw [ht, h0])) (by rw [h1])

theorem out_dead (t : Fin (cfgM m hO).N) (hp : t.val % 2 = 1) (h : ¬Live m c (tileOf t.val)) (s : Fin 512) (d : Fin 1024) :
    (outsAt0 m hO c t.val t.isLt).1 (ix2 s d) = (0 : EReal) := by
  rw [outsAt0_D m hO c t (by omega) (fun h' => h ((branch_iff m c hO t).mp h')) hp]
  dsimp only
  refine (out_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (tbl m 1) (fun h' => absurd ((hcond0_0 t).mp h') (by omega)) ((hcond0_2 t).mpr hp) (outsAt0 m hO c (t.val - 1) (Nat.lt_of_le_of_lt (Nat.sub_le _ _) t.isLt)).2 (fun h' => h ((branch_iff m c hO t).mp h')) (ix2 s d)).trans ?_
  refine (pay_gate _ _ s d).trans ?_
  have ht : tileOf (t.val - 1) = tileOf t.val := Fin.ext (by simp only [tileOf]; omega)
  have e := acc_dead m c hO ⟨t.val - 1, Nat.lt_of_le_of_lt (Nat.sub_le _ _) t.isLt⟩ (by show (t.val - 1) % 2 = 0; omega) (by rw [ht]; exact h) s d
  rw [e, zero_mul]

/-- A row of a tile lies below the last end when the tile's first row does. -/
theorem live_row (i : Fin 71) (s : Fin 512) : ((rowOf i s).val : ℤ) < (lastOf (argCounts m c) 7).toInt ↔ Live m c i := by
  obtain ⟨k, hk⟩ := lastOf_dvd (argCounts m c) 7
  have hs := s.isLt
  show ((i.val * 512 + s.val : ℕ) : ℤ) < (lastOf (argCounts m c) 7).toInt ↔ (i.val : ℤ) * 512 < (lastOf (argCounts m c) 7).toInt
  rw [hk]
  push_cast
  omega

/-- A tile's rows all have the owner of its first row. -/
theorem owner_row (i : Fin 71) (s : Fin 512) : owner (lastOf (argCounts m c)) ((rowOf i s).val : ℤ) = expertOf m c i := by
  have e : ((rowOf i s).val : ℤ) = (i.val : ℤ) * 512 + (s.val : ℤ) := by
    show ((i.val * 512 + s.val : ℕ) : ℤ) = _
    push_cast
    rfl
  have h := before_block (lastOf (argCounts m c)) (lastOf_dvd _) (i.val : ℤ) (s.val : ℤ) (by omega) (by have := s.isLt; omega)
  unfold expertOf owner
  simp only [e, h]

theorem answer_halves (i : Fin 71) (s : Fin 512) (d : Fin 1024) :
    answer (m ((c : Thread nD τ).loc main_arg1)) (m ((c : Thread nD τ).loc main_arg3)) (m ((c : Thread nD τ).loc main_arg4)) (m ((c : Thread nD τ).loc main_arg5)) (expertOf m c i) (rowOf i s) d
      = halfAnswer m c i 0 s d + halfAnswer m c i 1 s d := by
  have e0 : ∀ f : Fin 1792, hiddenOf 0 f = ⟨f.val, by omega⟩ := fun f => Fin.ext (by simp [hiddenOf])
  have e1 : ∀ f : Fin 1792, hiddenOf 1 f = ⟨1792 + f.val, by omega⟩ := fun f => Fin.ext (by simp [hiddenOf])
  unfold answer halfAnswer
  rw [expertRow_halves]
  simp only [e0, e1]

/-- The result of the kernel, from what is in memory. -/
abbrev kernelResult : Vec Ideal S36352x1024 .bf16 :=
  result (argCounts m c) (m ((c : Thread nD τ).loc main_arg1)) (m ((c : Thread nD τ).loc main_arg2)) (m ((c : Thread nD τ).loc main_arg3)) (m ((c : Thread nD τ).loc main_arg4)) (m ((c : Thread nD τ).loc main_arg5))

theorem tile_result (t : Fin (cfgM m hO).N) (hp : t.val % 2 = 1) (s : Fin 512) (d : Fin 1024) :
    (outsAt0 m hO c t.val t.isLt).1 (ix2 s d) = kernelResult m c (ix2 (rowOf (tileOf t.val) s) d) := by
  unfold kernelResult
  rw [result_at]
  by_cases h : Live m c (tileOf t.val)
  · rw [if_pos ((live_row m c _ s).mpr h), owner_row, answer_halves, out_live m c hO t hp h]
  · rw [if_neg (fun h' => h ((live_row m c _ s).mp h')), out_dead m c hO t hp h]

/-- The points that write the result back write every block of it. -/
theorem covers (a : (pcfg0 (F := Ideal)).Adm) : ((cfg0 a).win 5).Covers := by
  refine ⟨(by decide : ∀ q : Fin 2, 0 < S512x1024.size q), fun β => ?_⟩
  have e0 : ((cfg0 a).win 5).nblk (0 : Fin 2) = (36352 + 512 - 1) / 512 := rfl
  have e1 : ((cfg0 a).win 5).nblk (1 : Fin 2) = (1024 + 1024 - 1) / 1024 := rfl
  have hb : (β (0 : Fin 2)).val < 71 := lt_of_lt_of_eq (β (0 : Fin 2)).isLt e0
  have h1 : (β (1 : Fin 2)).val < 1 := lt_of_lt_of_eq (β (1 : Fin 2)).isLt e1
  have hN : (cfg0 a).N = 142 := N_0
  refine ⟨⟨2 * (β (0 : Fin 2)).val + 1, lt_of_lt_of_eq (by omega) hN.symm⟩, (flush0_5 a _).mpr (by show (2 * (β (0 : Fin 2)).val + 1) % 2 = 1; omega), fun q => ⟨?_, .inl rfl⟩⟩
  rw [index_out]
  revert q
  refine Fin.forall_fin_two.mpr ⟨?_, ?_⟩
  · show (2 * (β (0 : Fin 2)).val + 1) / 2 % 71 = (β (0 : Fin 2)).val
    omega
  · show 0 = (β (1 : Fin 2)).val
    omega

theorem out_emb (t : Fin (cfgM m hO).N) (s : Fin 512) (d : Fin 1024) :
    ((View.whole main_v43).slice (((cfgM m hO).win 5).rect t)).emb (ix2 s d) = ix2 (rowOf (tileOf t.val) s) d := by
  blk_ext [index_out (adm m hO) t, rowOf]

theorem kernel_out : (dats m hO 0 c).arrAt 5 (cfgM m hO).N = kernelResult m c := by
  refine (dats m hO 0 c).arrAt_eq_of_covers 5 _ (covers (adm m hO)) fun t hf y => ?_
  blk_simp
  rw [after0_5]
  suffices h : ∀ z : S512x1024.Idx, (outsAt0 m hO c t.val t.isLt).1 z = kernelResult m c (((View.whole main_v43).slice (((cfgM m hO).win 5).rect t)).emb z) from h y
  intro z
  obtain ⟨s, d, rfl⟩ : ∃ (s : Fin 512) (d : Fin 1024), z = ix2 s d := ⟨z 0, z 1, eq_ix2 z⟩
  exact (tile_result m c hO t ((flush0_5 (adm m hO) t).mp hf) s d).trans (congrArg (kernelResult m c) (out_emb m hO t s d).symm)

end Cert.EX
-- ==== Proof.EX.RefRoute.lean ====
module

public import proofs.«01_k».proof.Proof.Gen.ExpertsReferenceIdeal.Read
public import proofs.«01_k».proof.Proof.EX.Result
public import proofs.«01_k».proof.Proof.EX.Payload
public import Idealize.ShloMosaic.Lib.Pipeline.ValueKit
public import Idealize.ShloMosaic.Lib.Pointwise

@[expose] public section

set_option maxRecDepth 16384

noncomputable section

namespace Cert.EX

open Idealize.ShloMosaic Idealize.ShloMosaic.TcCoe Idealize.SL.Sem
open Cert.ExpertsReferenceIdeal Cert.ExpertsReferenceIdeal.Gen Cert.ExpertsReferenceIdeal.Read

theorem foldl_words {ι : Type} (l : List ι) (p : ι → Bool) (g : ι → BitVec 32) (z : BitVec 32) :
    (l.filter p).foldl (fun r n => IntOp.addi r (g n)) z = z + (l.map fun n => if p n = true then g n else 0).sum := by
  induction l generalizing z with
  | nil => simp
  | cons a l ih =>
    by_cases h : p a = true
    · rw [List.filter_cons_of_pos h, List.foldl_cons, ih, List.map_cons, List.sum_cons, if_pos h]
      show z + g a + _ = _
      rw [add_assoc]
    · rw [List.filter_cons_of_neg h, ih, List.map_cons, List.sum_cons, if_neg h, zero_add]

/-- A sum of words over the rows of an array. -/
theorem reduce_rows (x : IVec S32x8 32) (z : IVec S_ 32) (hz : z (Shape.Idx.first h_S_) = 0#32) (e : Fin 8) :
    (Host.reduce IntOp.addi x z reducesTo_S32x8_S8_d0 h_S_ : IVec S8 32) (ix1 e) = ∑ w : Fin 32, x (ix2 w e) := by
  unfold Host.reduce
  rw [foldl_words, hz, ← Fin.sum_univ_def]
  show 0 + _ = _
  rw [zero_add]
  simp only [decide_eq_true_eq]
  rw [Equiv.sum_comp (S32x8.rowMajor.symm) (fun i => if reducesTo_S32x8_S8_d0.drop i = ix1 e then x i else 0), ← Finset.sum_filter,
    Shape.ReducesTo.sum_fiber_r2_a0]
  rfl

variable (b : Vec Ideal S32x8 .f32) (x : Vec Ideal S36352x1024 .f32) (g : Vec Ideal S36352 .f32)
  (wg wu : Vec Ideal S8x1024x3584 .f32) (wd : Vec Ideal S8x3584x1024 .f32)

theorem ref_count (e : Fin 8) : val_main_v1 (F := Ideal) b (ix1 e) = countOf b e :=
  reduce_rows _ _ rfl e

theorem ref_padded (e : Fin 8) : val_main_v6 (F := Ideal) b (ix1 e) = IntOp.muli (divFloor (IntOp.addi (countOf b e) 511#32)) 512#32 := by
  rw [← ref_count]
  rfl

theorem ref_ends (e : Fin 8) : val_main_v7 (F := Ideal) b (ix1 e) = lastOf b e := by
  refine (Routing.cumsum_vec (N := 8) (Nm1 := 7) rfl (val_main_v6 (F := Ideal) b) _ rfl reduceWindows_S8_S8_w8s1p7_0 h_S_ e).trans ?_
  exact Finset.sum_congr rfl fun e' _ => congrArg (fun z => if e' ≤ e then z else 0) (ref_padded b e')

theorem ref_past (r : Fin 36352) (q : Fin 8) : val_main_v13 (F := Ideal) b (ix2 r q) = BitVec.ofBool (decide ((lastOf b q).toInt ≤ (r.val : ℤ))) := by
  have e : val_main_v13 (F := Ideal) b (ix2 r q) = IntOp.cmpi .sge (BitVec.ofNat 32 r.val) (val_main_v7 (F := Ideal) b (ix1 q)) := by
    pointwise [val_main_v13, val_main_v11, val_main_v12, val_main_v9, val_main_v10, val_main_v8]
  rw [e, ref_ends, WordCmp.cmpi_sge_eq, toInt_ofNat_small _ (by omega)]

theorem bit_iff (p : Prop) [Decidable p] : BitVec.ofBool (decide p) = 1#1 ↔ p := by
  by_cases h : p <;> simp [h]

theorem ref_before (r : Fin 36352) : val_main_v15 (F := Ideal) b (ix1 r) = BitVec.ofNat 32 (before (lastOf b) r.val) := by
  refine Routing.reduce_count (n := 36352) (m := 8) (by norm_num) (val_main_v13 (F := Ideal) b) natLt_1_32 reducesTo_S36352x8_S36352_d1 h_S_ r _ fun q => ?_
  rw [show val_main_v13 (F := Ideal) b (ValueIdx.ix2 r q) = _ from ref_past b r q]
  rw [bit_iff]
  exact ⟨fun h => ⟨q.isLt, h⟩, fun ⟨_, h⟩ => h⟩

theorem ref_below (r : Fin 36352) : val_main_v19 (F := Ideal) b (ix1 r) = BitVec.ofBool (decide ((r.val : ℤ) < (lastOf b 7).toInt)) := by
  have e : val_main_v19 (F := Ideal) b (ix1 r) = IntOp.cmpi .slt (BitVec.ofNat 32 r.val) (val_main_v7 (F := Ideal) b (ix1 7)) := by
    pointwise [val_main_v19, val_main_v18, val_main_v17, val_main_v16, val_main_v8]
  rw [e, ref_ends, WordCmp.cmpi_slt_eq, toInt_ofNat_small _ (by omega)]

/-- The expert's word of a row: its owner below the last end, eight past it. -/
theorem ref_owner (r : Fin 36352) : val_main_v20 (F := Ideal) b (ix1 r)
    = if (r.val : ℤ) < (lastOf b 7).toInt then BitVec.ofNat 32 (owner (lastOf b) (r.val : ℤ)).val else 8#32 := by
  rw [val_main_v20_apply, ref_below, ref_before]
  by_cases h : (r.val : ℤ) < (lastOf b 7).toInt
  · have hb := before_lt _ _ h
    have ho : (owner (lastOf b) (r.val : ℤ)).val = before (lastOf b) (r.val : ℤ) := by
      unfold owner
      exact Nat.min_eq_left hb
    rw [if_pos h, ho, decide_eq_true h]
    rfl
  · rw [if_neg h, decide_eq_false h]
    rfl

theorem word_ne : ∀ o e : Fin 8, IntOp.cmpi .eq (BitVec.ofNat 32 o.val) (BitVec.ofNat 32 e.val) = BitVec.ofBool (decide (e = o)) := by decide

theorem word_eight : ∀ e : Fin 8, IntOp.cmpi .eq (8#32 : BitVec 32) (BitVec.ofNat 32 e.val) = 0#1 := by decide

/-- The share of an expert in a row's answer: the gate for the owner, zero for the others and past the last end. -/
theorem ref_share (r : Fin 36352) (e : Fin 8) : val_main_v28 (F := Ideal) b g (ix2 r e)
    = (if (r.val : ℤ) < (lastOf b 7).toInt then (if e = owner (lastOf b) (r.val : ℤ) then g (ix1 r) else 0) else 0 : EReal) := by
  have h0 : val_main_v28 (F := Ideal) b g (ix2 r e)
      = (Scalar.select (IntOp.cmpi .eq (val_main_v20 (F := Ideal) b (ix1 r)) (BitVec.ofNat 32 e.val)) (g (ix1 r)) (0 : EReal) : EReal) := by
    pointwise [val_main_v28, val_main_v26, val_main_v24, val_main_v25, val_main_v21, val_main_v22, val_main_v23, val_main_call3_v1, val_main_call3_v2, val_main_call3_v0, val_main_cst, val_main_v27]
    exact congrArg (Scalar.select _ _) zero_word
  rw [h0, ref_owner]
  by_cases h : (r.val : ℤ) < (lastOf b 7).toInt
  · rw [if_pos h, if_pos h, word_ne]
    by_cases ho : e = owner (lastOf b) (r.val : ℤ)
    · rw [if_pos ho, decide_eq_true ho]
      rfl
    · rw [if_neg ho, decide_eq_false ho]
      rfl
  · rw [if_neg h, if_neg h, word_eight]
    rfl

end Cert.EX
-- ==== Proof.EX.RefExperts.lean ====
module

public import proofs.«01_k».proof.Proof.EX.RefRoute

@[expose] public section

set_option maxRecDepth 16384

noncomputable section

namespace Cert.EX

open Idealize.ShloMosaic Idealize.ShloMosaic.TcCoe Idealize.SL.Sem
open Cert.ExpertsReferenceIdeal Cert.ExpertsReferenceIdeal.Gen Cert.ExpertsReferenceIdeal.Read

/-- An expert's answers from its three weights, as the reference spells them. -/
def feed (x : FVec Ideal S36352x1024 .f32) (g u : FVec Ideal S1024x3584 .f32) (d : FVec Ideal S3584x1024 .f32) : FVec Ideal S36352x1024 .f32 :=
  Host.dotGeneral dot_S36352x3584_S3584x1024_S36352x1024_1_0_0_1_n_n none
    (mulf (mulf (Host.dotGeneral dot_S36352x1024_S1024x3584_S36352x3584_1_0_0_1_n_n none x g : FVec Ideal S36352x3584 .f32)
      (Host.divf (broadcastInDim S36352x3584 ![] bcast_S_S36352x3584 (constant S_ .f32 0x3F800000#32))
        (addf (broadcastInDim S36352x3584 ![] bcast_S_S36352x3584 (constant S_ .f32 0x3F800000#32))
          (Host.exp (Host.negf (Host.dotGeneral dot_S36352x1024_S1024x3584_S36352x3584_1_0_0_1_n_n none x g : FVec Ideal S36352x3584 .f32))))))
      (Host.dotGeneral dot_S36352x1024_S1024x3584_S36352x3584_1_0_0_1_n_n none x u : FVec Ideal S36352x3584 .f32) : FVec Ideal S36352x3584 .f32) d

theorem feed_at (x : FVec Ideal S36352x1024 .f32) (g u : FVec Ideal S1024x3584 .f32) (d : FVec Ideal S3584x1024 .f32) (r : Fin 36352) (j : Fin 1024) :
    feed x g u d (ix2 r j) = expertRow (fun k => x (ix2 r k)) (fun k f => g (ix2 k f)) (fun k f => u (ix2 k f)) (fun f => d (ix2 f j)) := by
  pointwise [feed]
  rfl

variable (b : Vec Ideal S32x8 .f32) (x : Vec Ideal S36352x1024 .f32) (g : Vec Ideal S36352 .f32)
  (wg wu : Vec Ideal S8x1024x3584 .f32) (wd : Vec Ideal S8x3584x1024 .f32)

theorem gate_0 (k : Fin 1024) (f : Fin 3584) : val_main_v32 (F := Ideal) wg (ix2 k f) = wg (ix3 0 k f) := by
  pointwise [val_main_v32, val_main_v31]

theorem up_0 (k : Fin 1024) (f : Fin 3584) : val_main_v34 (F := Ideal) wu (ix2 k f) = wu (ix3 0 k f) := by
  pointwise [val_main_v34, val_main_v33]

theorem down_0 (f : Fin 3584) (j : Fin 1024) : val_main_v36 (F := Ideal) wd (ix2 f j) = wd (ix3 0 f j) := by
  pointwise [val_main_v36, val_main_v35]

theorem share_0 (r : Fin 36352) (j : Fin 1024) : val_main_v42 (F := Ideal) b g (ix2 r j) = val_main_v28 (F := Ideal) b g (ix2 r 0) := by
  pointwise [val_main_v42, val_main_v30]

theorem expert_0 (r : Fin 36352) (j : Fin 1024) : val_main_v41 (F := Ideal) x wg wu wd (ix2 r j) = answer x wg wu wd 0 r j := by
  have h : val_main_v41 (F := Ideal) x wg wu wd = feed x (val_main_v32 (F := Ideal) wg) (val_main_v34 (F := Ideal) wu) (val_main_v36 (F := Ideal) wd) := rfl
  rw [h, feed_at]
  simp only [gate_0, up_0, down_0]
  rfl

theorem gate_1 (k : Fin 1024) (f : Fin 3584) : val_main_v47 (F := Ideal) wg (ix2 k f) = wg (ix3 1 k f) := by
  pointwise [val_main_v47, val_main_v46]

theorem up_1 (k : Fin 1024) (f : Fin 3584) : val_main_v49 (F := Ideal) wu (ix2 k f) = wu (ix3 1 k f) := by
  pointwise [val_main_v49, val_main_v48]

theorem down_1 (f : Fin 3584) (j : Fin 1024) : val_main_v51 (F := Ideal) wd (ix2 f j) = wd (ix3 1 f j) := by
  pointwise [val_main_v51, val_main_v50]

theorem share_1 (r : Fin 36352) (j : Fin 1024) : val_main_v57 (F := Ideal) b g (ix2 r j) = val_main_v28 (F := Ideal) b g (ix2 r 1) := by
  pointwise [val_main_v57, val_main_v45]

theorem expert_1 (r : Fin 36352) (j : Fin 1024) : val_main_v56 (F := Ideal) x wg wu wd (ix2 r j) = answer x wg wu wd 1 r j := by
  have h : val_main_v56 (F := Ideal) x wg wu wd = feed x (val_main_v47 (F := Ideal) wg) (val_main_v49 (F := Ideal) wu) (val_main_v51 (F := Ideal) wd) := rfl
  rw [h, feed_at]
  simp only [gate_1, up_1, down_1]
  rfl

theorem gate_2 (k : Fin 1024) (f : Fin 3584) : val_main_v62 (F := Ideal) wg (ix2 k f) = wg (ix3 2 k f) := by
  pointwise [val_main_v62, val_main_v61]

theorem up_2 (k : Fin 1024) (f : Fin 3584) : val_main_v64 (F := Ideal) wu (ix2 k f) = wu (ix3 2 k f) := by
  pointwise [val_main_v64, val_main_v63]

theorem down_2 (f : Fin 3584) (j : Fin 1024) : val_main_v66 (F := Ideal) wd (ix2 f j) = wd (ix3 2 f j) := by
  pointwise [val_main_v66, val_main_v65]

theorem share_2 (r : Fin 36352) (j : Fin 1024) : val_main_v72 (F := Ideal) b g (ix2 r j) = val_main_v28 (F := Ideal) b g (ix2 r 2) := by
  pointwise [val_main_v72, val_main_v60]

theorem expert_2 (r : Fin 36352) (j : Fin 1024) : val_main_v71 (F := Ideal) x wg wu wd (ix2 r j) = answer x wg wu wd 2 r j := by
  have h : val_main_v71 (F := Ideal) x wg wu wd = feed x (val_main_v62 (F := Ideal) wg) (val_main_v64 (F := Ideal) wu) (val_main_v66 (F := Ideal) wd) := rfl
  rw [h, feed_at]
  simp only [gate_2, up_2, down_2]
  rfl

theorem gate_3 (k : Fin 1024) (f : Fin 3584) : val_main_v77 (F := Ideal) wg (ix2 k f) = wg (ix3 3 k f) := by
  pointwise [val_main_v77, val_main_v76]

theorem up_3 (k : Fin 1024) (f : Fin 3584) : val_main_v79 (F := Ideal) wu (ix2 k f) = wu (ix3 3 k f) := by
  pointwise [val_main_v79, val_main_v78]

theorem down_3 (f : Fin 3584) (j : Fin 1024) : val_main_v81 (F := Ideal) wd (ix2 f j) = wd (ix3 3 f j) := by
  pointwise [val_main_v81, val_main_v80]

theorem share_3 (r : Fin 36352) (j : Fin 1024) : val_main_v87 (F := Ideal) b g (ix2 r j) = val_main_v28 (F := Ideal) b g (ix2 r 3) := by
  pointwise [val_main_v87, val_main_v75]

theorem expert_3 (r : Fin 36352) (j : Fin 1024) : val_main_v86 (F := Ideal) x wg wu wd (ix2 r j) = answer x wg wu wd 3 r j := by
  have h : val_main_v86 (F := Ideal) x wg wu wd = feed x (val_main_v77 (F := Ideal) wg) (val_main_v79 (F := Ideal) wu) (val_main_v81 (F := Ideal) wd) := rfl
  rw [h, feed_at]
  simp only [gate_3, up_3, down_3]
  rfl

theorem gate_4 (k : Fin 1024) (f : Fin 3584) : val_main_v92 (F := Ideal) wg (ix2 k f) = wg (ix3 4 k f) := by
  pointwise [val_main_v92, val_main_v91]

theorem up_4 (k : Fin 1024) (f : Fin 3584) : val_main_v94 (F := Ideal) wu (ix2 k f) = wu (ix3 4 k f) := by
  pointwise [val_main_v94, val_main_v93]

theorem down_4 (f : Fin 3584) (j : Fin 1024) : val_main_v96 (F := Ideal) wd (ix2 f j) = wd (ix3 4 f j) := by
  pointwise [val_main_v96, val_main_v95]

theorem share_4 (r : Fin 36352) (j : Fin 1024) : val_main_v102 (F := Ideal) b g (ix2 r j) = val_main_v28 (F := Ideal) b g (ix2 r 4) := by
  pointwise [val_main_v102, val_main_v90]

theorem expert_4 (r : Fin 36352) (j : Fin 1024) : val_main_v101 (F := Ideal) x wg wu wd (ix2 r j) = answer x wg wu wd 4 r j := by
  have h : val_main_v101 (F := Ideal) x wg wu wd = feed x (val_main_v92 (F := Ideal) wg) (val_main_v94 (F := Ideal) wu) (val_main_v96 (F := Ideal) wd) := rfl
  rw [h, feed_at]
  simp only [gate_4, up_4, down_4]
  rfl

theorem gate_5 (k : Fin 1024) (f : Fin 3584) : val_main_v107 (F := Ideal) wg (ix2 k f) = wg (ix3 5 k f) := by
  pointwise [val_main_v107, val_main_v106]

theorem up_5 (k : Fin 1024) (f : Fin 3584) : val_main_v109 (F := Ideal) wu (ix2 k f) = wu (ix3 5 k f) := by
  pointwise [val_main_v109, val_main_v108]

theorem down_5 (f : Fin 3584) (j : Fin 1024) : val_main_v111 (F := Ideal) wd (ix2 f j) = wd (ix3 5 f j) := by
  pointwise [val_main_v111, val_main_v110]

theorem share_5 (r : Fin 36352) (j : Fin 1024) : val_main_v117 (F := Ideal) b g (ix2 r j) = val_main_v28 (F := Ideal) b g (ix2 r 5) := by
  pointwise [val_main_v117, val_main_v105]

theorem expert_5 (r : Fin 36352) (j : Fin 1024) : val_main_v116 (F := Ideal) x wg wu wd (ix2 r j) = answer x wg wu wd 5 r j := by
  have h : val_main_v116 (F := Ideal) x wg wu wd = feed x (val_main_v107 (F := Ideal) wg) (val_main_v109 (F := Ideal) wu) (val_main_v111 (F := Ideal) wd) := rfl
  rw [h, feed_at]
  simp only [gate_5, up_5, down_5]
  rfl

theorem gate_6 (k : Fin 1024) (f : Fin 3584) : val_main_v122 (F := Ideal) wg (ix2 k f) = wg (ix3 6 k f) := by
  pointwise [val_main_v122, val_main_v121]

theorem up_6 (k : Fin 1024) (f : Fin 3584) : val_main_v124 (F := Ideal) wu (ix2 k f) = wu (ix3 6 k f) := by
  pointwise [val_main_v124, val_main_v123]

theorem down_6 (f : Fin 3584) (j : Fin 1024) : val_main_v126 (F := Ideal) wd (ix2 f j) = wd (ix3 6 f j) := by
  pointwise [val_main_v126, val_main_v125]

theorem share_6 (r : Fin 36352) (j : Fin 1024) : val_main_v132 (F := Ideal) b g (ix2 r j) = val_main_v28 (F := Ideal) b g (ix2 r 6) := by
  pointwise [val_main_v132, val_main_v120]

theorem expert_6 (r : Fin 36352) (j : Fin 1024) : val_main_v131 (F := Ideal) x wg wu wd (ix2 r j) = answer x wg wu wd 6 r j := by
  have h : val_main_v131 (F := Ideal) x wg wu wd = feed x (val_main_v122 (F := Ideal) wg) (val_main_v124 (F := Ideal) wu) (val_main_v126 (F := Ideal) wd) := rfl
  rw [h, feed_at]
  simp only [gate_6, up_6, down_6]
  rfl

theorem gate_7 (k : Fin 1024) (f : Fin 3584) : val_main_v137 (F := Ideal) wg (ix2 k f) = wg (ix3 7 k f) := by
  pointwise [val_main_v137, val_main_v136]

theorem up_7 (k : Fin 1024) (f : Fin 3584) : val_main_v139 (F := Ideal) wu (ix2 k f) = wu (ix3 7 k f) := by
  pointwise [val_main_v139, val_main_v138]

theorem down_7 (f : Fin 3584) (j : Fin 1024) : val_main_v141 (F := Ideal) wd (ix2 f j) = wd (ix3 7 f j) := by
  pointwise [val_main_v141, val_main_v140]

theorem share_7 (r : Fin 36352) (j : Fin 1024) : val_main_v147 (F := Ideal) b g (ix2 r j) = val_main_v28 (F := Ideal) b g (ix2 r 7) := by
  pointwise [val_main_v147, val_main_v135]

theorem expert_7 (r : Fin 36352) (j : Fin 1024) : val_main_v146 (F := Ideal) x wg wu wd (ix2 r j) = answer x wg wu wd 7 r j := by
  have h : val_main_v146 (F := Ideal) x wg wu wd = feed x (val_main_v137 (F := Ideal) wg) (val_main_v139 (F := Ideal) wu) (val_main_v141 (F := Ideal) wd) := rfl
  rw [h, feed_at]
  simp only [gate_7, up_7, down_7]
  rfl

theorem ref_start (i : S36352x1024.Idx) : val_main_v29 (F := Ideal) i = (0 : EReal) := by
  rw [val_main_v29_apply, val_main_cst_5_apply]
  exact zero_word

theorem ref_sum_0 (r : Fin 36352) (j : Fin 1024) : val_main_v44 (F := Ideal) b x g wg wu wd (ix2 r j)
    = (0 + val_main_v28 (F := Ideal) b g (ix2 r 0) * answer x wg wu wd 0 r j : EReal) := by
  rw [← share_0 b g r j, ← expert_0 x wg wu wd r j, ← ref_start (ix2 r j)]
  rfl

theorem ref_sum_1 (r : Fin 36352) (j : Fin 1024) : val_main_v59 (F := Ideal) b x g wg wu wd (ix2 r j)
    = (val_main_v44 (F := Ideal) b x g wg wu wd (ix2 r j) + val_main_v28 (F := Ideal) b g (ix2 r 1) * answer x wg wu wd 1 r j : EReal) := by
  rw [← share_1 b g r j, ← expert_1 x wg wu wd r j]
  rfl

theorem ref_sum_2 (r : Fin 36352) (j : Fin 1024) : val_main_v74 (F := Ideal) b x g wg wu wd (ix2 r j)
    = (val_main_v59 (F := Ideal) b x g wg wu wd (ix2 r j) + val_main_v28 (F := Ideal) b g (ix2 r 2) * answer x wg wu wd 2 r j : EReal) := by
  rw [← share_2 b g r j, ← expert_2 x wg wu wd r j]
  rfl

theorem ref_sum_3 (r : Fin 36352) (j : Fin 1024) : val_main_v89 (F := Ideal) b x g wg wu wd (ix2 r j)
    = (val_main_v74 (F := Ideal) b x g wg wu wd (ix2 r j) + val_main_v28 (F := Ideal) b g (ix2 r 3) * answer x wg wu wd 3 r j : EReal) := by
  rw [← share_3 b g r j, ← expert_3 x wg wu wd r j]
  rfl

theorem ref_sum_4 (r : Fin 36352) (j : Fin 1024) : val_main_v104 (F := Ideal) b x g wg wu wd (ix2 r j)
    = (val_main_v89 (F := Ideal) b x g wg wu wd (ix2 r j) + val_main_v28 (F := Ideal) b g (ix2 r 4) * answer x wg wu wd 4 r j : EReal) := by
  rw [← share_4 b g r j, ← expert_4 x wg wu wd r j]
  rfl

theorem ref_sum_5 (r : Fin 36352) (j : Fin 1024) : val_main_v119 (F := Ideal) b x g wg wu wd (ix2 r j)
    = (val_main_v104 (F := Ideal) b x g wg wu wd (ix2 r j) + val_main_v28 (F := Ideal) b g (ix2 r 5) * answer x wg wu wd 5 r j : EReal) := by
  rw [← share_5 b g r j, ← expert_5 x wg wu wd r j]
  rfl

theorem ref_sum_6 (r : Fin 36352) (j : Fin 1024) : val_main_v134 (F := Ideal) b x g wg wu wd (ix2 r j)
    = (val_main_v119 (F := Ideal) b x g wg wu wd (ix2 r j) + val_main_v28 (F := Ideal) b g (ix2 r 6) * answer x wg wu wd 6 r j : EReal) := by
  rw [← share_6 b g r j, ← expert_6 x wg wu wd r j]
  rfl

theorem ref_sum_7 (r : Fin 36352) (j : Fin 1024) : val_main_v149 (F := Ideal) b x g wg wu wd (ix2 r j)
    = (val_main_v134 (F := Ideal) b x g wg wu wd (ix2 r j) + val_main_v28 (F := Ideal) b g (ix2 r 7) * answer x wg wu wd 7 r j : EReal) := by
  rw [← share_7 b g r j, ← expert_7 x wg wu wd r j]
  rfl

/-- Of eight terms only the owner's share is not zero. -/
theorem owner_sum (o : Fin 8) (z : EReal) (s a : Fin 8 → EReal) (h : ∀ e, s e = if e = o then z else 0) :
    (((((((((0 : EReal) + s 0 * a 0) + s 1 * a 1) + s 2 * a 2) + s 3 * a 3) + s 4 * a 4) + s 5 * a 5) + s 6 * a 6) + s 7 * a 7) = a o * z := by
  rw [h 0, h 1, h 2, h 3, h 4, h 5, h 6, h 7]
  fin_cases o <;> simp [mul_comm]

theorem zero_terms (s a : Fin 8 → EReal) (h : ∀ e, s e = 0) :
    (((((((((0 : EReal) + s 0 * a 0) + s 1 * a 1) + s 2 * a 2) + s 3 * a 3) + s 4 * a 4) + s 5 * a 5) + s 6 * a 6) + s 7 * a 7) = 0 := by
  simp [h]

/-- The reference is the gated answers of the owners. -/
theorem ref_result : val_main_v150 (F := Ideal) b x g wg wu wd = result b x g wg wu wd := by
  funext i
  obtain ⟨r, j, rfl⟩ : ∃ (r : Fin 36352) (j : Fin 1024), i = ix2 r j := ⟨i 0, i 1, eq_ix2 i⟩
  have e : val_main_v150 (F := Ideal) b x g wg wu wd (ix2 r j) = val_main_v149 (F := Ideal) b x g wg wu wd (ix2 r j) := rfl
  rw [e, ref_sum_7, ref_sum_6, ref_sum_5, ref_sum_4, ref_sum_3, ref_sum_2, ref_sum_1, ref_sum_0, result_at]
  by_cases h : (r.val : ℤ) < (lastOf b 7).toInt
  · rw [if_pos h]
    exact owner_sum (owner (lastOf b) (r.val : ℤ)) (g (ix1 r)) (fun e => val_main_v28 (F := Ideal) b g (ix2 r e)) (fun e => answer x wg wu wd e r j)
      fun e => (ref_share b g r e).trans (if_pos h)
  · rw [if_neg h]
    exact zero_terms (fun e => val_main_v28 (F := Ideal) b g (ix2 r e)) (fun e => answer x wg wu wd e r j)
      fun e => (ref_share b g r e).trans (if_neg h)

end Cert.EX
-- ==== Proof.DN.Spec.lean ====
module

public import proofs.«01_k».proof.Proof.EX.Spec

@[expose] public section

noncomputable section

namespace Cert.DN

open Idealize.ShloMosaic

/-- One number of a row divided by the root of its mean square and scaled. -/
def normed (y g : Fin 1024 → EReal) (k : Fin 1024) : EReal :=
  y k * Ideal.rsqrt (Ideal.div (∑ j, y j * y j) (Ideal.ofBits .f32 0x44800000#32) + Ideal.ofBits .f32 0x358637BD#32) * g k

/-- One number of the block's answer for a row. -/
def denseRow (y g : Fin 1024 → EReal) (wg wu : Fin 1024 → Fin 2816 → EReal) (d : Fin 2816 → EReal) (j : Fin 1024) : EReal :=
  y j + ∑ f, Cert.EX.hidden (normed y g) (fun k => wg k f) (fun k => wu k f) * d f

end Cert.DN
-- ==== Proof.DN.Payload.lean ====
module

public import proofs.«01_k».proof.Proof.Gen.DenseIdeal.Value
public import proofs.«01_k».proof.Proof.DN.Spec
public import Idealize.ShloMosaic.Lib.Pipeline.ValueKit
public import Idealize.ShloMosaic.Lib.Pointwise

@[expose] public section

set_option maxRecDepth 16384

noncomputable section

namespace Cert.DN

open Idealize.ShloMosaic Idealize.ShloMosaic.TcCoe Idealize.SL.Sem
open Cert.DenseIdeal Cert.DenseIdeal.Gen

section Slabs

variable (h : FVec Ideal S256x1024 .bf16) (a b : Vec Ideal S1024x256 .bf16)

theorem slab_at (r n : Fin 256) : k0_pay14 h a b (ix2 r n) = Cert.EX.hidden (fun k => h (ix2 r k)) (fun k => a (ix2 k n)) (fun k => b (ix2 k n)) := by
  pointwise [k0_pay14]
  simp only [zero_sub]
  rfl

theorem slab_30 : k0_pay30 h a b = k0_pay14 h a b := rfl

theorem slab_29 : k0_pay29 h (k0_pay28 h a) b = k0_pay14 h a b := rfl

theorem slab_27 : k0_pay27 h a b = k0_pay14 h a b := rfl

theorem slab_26 : k0_pay26 h (k0_pay24 h a) (k0_pay25 b) = k0_pay14 h a b := rfl

theorem slab_23 : k0_pay23 h a b = k0_pay14 h a b := rfl

theorem slab_22 : k0_pay22 (k0_pay20 h a) (k0_pay21 h b) = k0_pay14 h a b := rfl

theorem slab_19 : k0_pay19 h a b = k0_pay14 h a b := rfl

theorem slab_18 : k0_pay18 (k0_pay15 h a) (k0_pay16 h b) k0_pay17 = k0_pay14 h a b := rfl

variable (y : FVec Ideal S256x1024 .f32) (g : FVec Ideal S1x1024 .f32) (q : FVec Ideal S256 .f32)

theorem slab_9 : k0_pay9 y g q a b = k0_pay14 (k0_pay8 y g q) a b := rfl

theorem slab_13 : k0_pay13 (k0_pay10 y g q a) (k0_pay11 y g q b) (k0_pay12 y g q a) = k0_pay14 (k0_pay8 y g q) a b := rfl

variable (wg wu : Vec Ideal S1024x2816 .bf16)

/-- All hidden numbers of a block of rows. -/
def slabs : Vec Ideal S256x2816 .bf16 := fun i =>
  Cert.EX.hidden (fun k => h (ix2 (i 0) k)) (fun k => wg (ix2 k (i 1))) (fun k => wu (ix2 k (i 1)))

theorem columns_at (w : Vec Ideal S1024x2816 .bf16) (off : ℕ) (h1 : off + 256 ≤ 2816) (inb) (k : Fin 1024) (n : Fin 256) :
    View.ld w (Rect.unit (s := S1024x2816) ![0, off] ![1024, 256] inb) (ix2 k n) = w (ix2 k ⟨off + n.val, by omega⟩) := by
  show w _ = w _
  congr 1
  funext a
  fin_cases a <;> refine Fin.ext ?_ <;> simp [Rect.unit, Rect.emb, ix2]

theorem slab_piece (off : ℕ) (h1 : off + 256 ≤ 2816) (inb inb') (x : S256x256.Idx) :
    k0_pay14 h (View.ld wg (Rect.unit (s := S1024x2816) ![0, off] ![1024, 256] inb)) (View.ld wu (Rect.unit (s := S1024x2816) ![0, off] ![1024, 256] inb)) x
      = slabs h wg wu ((Rect.unit (s := S256x2816) ![0, off] ![256, 256] inb').emb x) := by
  idx_vars x
  have e : (Rect.unit (s := S256x2816) ![0, off] ![256, 256] inb').emb (ix2 x0 x1) = ix2 x0 ⟨off + x1.val, by omega⟩ := by
    funext a
    fin_cases a <;> refine Fin.ext ?_ <;> simp [Rect.unit, Rect.emb, ix2]
  refine Eq.trans ?_ (congrArg (slabs h wg wu) e).symm
  rw [slab_at]
  exact congrArg₂ (Cert.EX.hidden _) (funext fun k => columns_at wg off h1 inb k x1) (funext fun k => columns_at wu off h1 inb k x1)

theorem mem_slab (j : S256x2816.Idx) (off : ℕ) (inb) (hj : off ≤ (j 1).val ∧ (j 1).val < off + 256) :
    j ∈ (Rect.unit (s := S256x2816) ![0, off] ![256, 256] inb).set := by
  rw [Rect.mem_set_unit]
  intro a
  match a with
  | ⟨0, _⟩ =>
    have := (j 0).isLt
    exact ⟨Nat.zero_le _, by simpa using this⟩
  | ⟨1, _⟩ => exact hj

end Slabs

section Rows

theorem residual_at (x : Vec Ideal S256x1024 .f32) (oa : Vec Ideal S256x512 .bf16) (wa : Vec Ideal S512x1024 .bf16) (ob : Vec Ideal S256x512 .bf16) (wb : Vec Ideal S512x1024 .bf16) (r : Fin 256) (j : Fin 1024) :
    k0_pay5 x oa wa ob wb (ix2 r j) = x (ix2 r j) + (∑ k : Fin 512, oa (ix2 r k) * wa (ix2 k j)) + ∑ k : Fin 512, ob (ix2 r k) * wb (ix2 k j) := by
  pointwise [k0_pay5]

theorem squares_at (x : Vec Ideal S256x1024 .f32) (oa : Vec Ideal S256x512 .bf16) (wa : Vec Ideal S512x1024 .bf16) (ob : Vec Ideal S256x512 .bf16) (wb : Vec Ideal S512x1024 .bf16) (r : Fin 256) :
    k0_pay7 x oa wa ob wb (ix1 r) = ∑ j : Fin 1024, k0_pay5 x oa wa ob wb (ix2 r j) * k0_pay5 x oa wa ob wb (ix2 r j) := by
  pointwise [k0_pay7]

theorem normed_at (y : FVec Ideal S256x1024 .f32) (g : Vec Ideal S1x1024 .f32) (q : FVec Ideal S256 .f32) (r : Fin 256) (hq : q (ix1 r) = ∑ j : Fin 1024, y (ix2 r j) * y (ix2 r j)) (k : Fin 1024) :
    k0_pay8 y (k0_pay6 g) q (ix2 r k) = normed (fun j => y (ix2 r j)) (fun j => g (ix2 0 j)) k := by
  pointwise [k0_pay8, k0_pay6]
  rw [hq]
  rfl

theorem answer_at (y : FVec Ideal S256x1024 .f32) (s : Vec Ideal S256x2816 .bf16) (d : Vec Ideal S2816x1024 .bf16) (r : Fin 256) (j : Fin 1024) :
    k0_pay1 y s d (ix2 r j) = y (ix2 r j) + ∑ f : Fin 2816, s (ix2 r f) * d (ix2 f j) := by
  pointwise [k0_pay1]

end Rows

section Block
variable (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S128x3584 .f32) (harg10 : arg10.IsWhole) (arg11 : Memref sig .tc .vmem S128x3584 .f32) (harg11 : arg11.IsWhole) (arg12 : Memref sig .tc .vmem S448x1024 .f32) (harg12 : arg12.IsWhole) (arg13 : Memref sig .tc .vmem S256x1024 .f32) (harg13 : arg13.IsWhole) (arg14 : Memref sig .tc .vmem S128x3584 .bf16) (harg14 : arg14.IsWhole) (arg15 : Memref sig .tc .vmem S128x3584 .bf16) (harg15 : arg15.IsWhole) (arg16 : Memref sig .tc .vmem S448x1024 .bf16) (harg16 : arg16.IsWhole) (arg17 : Memref sig .tc .vmem S256x2816 .bf16) (harg17 : arg17.IsWhole) (x0 : Vec Ideal S256x1024 .f32) (x1 : Vec Ideal S256x512 .bf16) (x2 : Vec Ideal S256x512 .bf16) (x3 : Vec Ideal S512x1024 .bf16) (x4 : Vec Ideal S512x1024 .bf16) (x5 : Vec Ideal S1x1024 .f32) (x6 : Vec Ideal S1024x2816 .bf16) (x7 : Vec Ideal S1024x2816 .bf16) (x8 : Vec Ideal S2816x1024 .bf16) (x9 : Vec Ideal S128x3584 .f32) (x10 : Vec Ideal S128x3584 .f32) (x11 : Vec Ideal S448x1024 .f32)

theorem out_block (y : S256x1024.Idx) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 y
    = k0_pay1 (k0_pay5 x0 x1 x3 x2 x4) (slabs (k0_pay8 (k0_pay5 x0 x1 x3 x2 x4) (k0_pay6 x5) (k0_pay7 x0 x1 x3 x2 x4)) x6 x7) x8 y := by
  frame_out
  refine congrArg (fun z => k0_pay1 (k0_pay5 x0 x1 x3 x2 x4) z x8 y) ?_
  simp only [slab_30, slab_29, slab_27, slab_26, slab_23, slab_22, slab_19, slab_18, slab_13, slab_9]
  rw [View.readCov_eq_canon']
  funext j
  have e : (Rect.unit (s := S256x2816) ![0, 0] ![256, 2816] inb_S256x2816_S256x2816_0_0).toLoadRect.idx j = j := by
    funext a
    fin_cases a <;> refine Fin.ext ?_ <;> simp [Rect.unit, LoadRect.idx]
  rw [e]
  refine View.canon_apply_of_pieces (S := S256x2816) (slabs (k0_pay8 (k0_pay5 x0 x1 x3 x2 x4) (k0_pay6 x5) (k0_pay7 x0 x1 x3 x2 x4)) x6 x7) _ ?_ j ?_
  · intro p hp
    simp only [List.mem_cons, List.not_mem_nil, or_false] at hp
    rcases hp with rfl | rfl | rfl | rfl | rfl | rfl | rfl | rfl | rfl | rfl | rfl <;> intro x <;> exact slab_piece _ _ _ _ (by omega) _ (by decide) x
  · have hv : (j 1).val < 2816 := (j 1).isLt
    have d : (2560 ≤ (j 1).val ∧ (j 1).val < 2560 + 256) ∨ (2304 ≤ (j 1).val ∧ (j 1).val < 2304 + 256) ∨ (2048 ≤ (j 1).val ∧ (j 1).val < 2048 + 256) ∨ (1792 ≤ (j 1).val ∧ (j 1).val < 1792 + 256) ∨ (1536 ≤ (j 1).val ∧ (j 1).val < 1536 + 256) ∨ (1280 ≤ (j 1).val ∧ (j 1).val < 1280 + 256) ∨ (1024 ≤ (j 1).val ∧ (j 1).val < 1024 + 256) ∨ (768 ≤ (j 1).val ∧ (j 1).val < 768 + 256) ∨ (512 ≤ (j 1).val ∧ (j 1).val < 512 + 256) ∨ (256 ≤ (j 1).val ∧ (j 1).val < 256 + 256) ∨ (0 ≤ (j 1).val ∧ (j 1).val < 0 + 256) := by omega
    rcases d with hj | hj | hj | hj | hj | hj | hj | hj | hj | hj | hj
    · exact ⟨_, .head _, mem_slab j _ (by decide) hj⟩
    · exact ⟨_, .tail _ (.head _), mem_slab j _ (by decide) hj⟩
    · exact ⟨_, .tail _ (.tail _ (.head _)), mem_slab j _ (by decide) hj⟩
    · exact ⟨_, .tail _ (.tail _ (.tail _ (.head _))), mem_slab j _ (by decide) hj⟩
    · exact ⟨_, .tail _ (.tail _ (.tail _ (.tail _ (.head _)))), mem_slab j _ (by decide) hj⟩
    · exact ⟨_, .tail _ (.tail _ (.tail _ (.tail _ (.tail _ (.head _))))), mem_slab j _ (by decide) hj⟩
    · exact ⟨_, .tail _ (.tail _ (.tail _ (.tail _ (.tail _ (.tail _ (.head _)))))), mem_slab j _ (by decide) hj⟩
    · exact ⟨_, .tail _ (.tail _ (.tail _ (.tail _ (.tail _ (.tail _ (.tail _ (.head _))))))), mem_slab j _ (by decide) hj⟩
    · exact ⟨_, .tail _ (.tail _ (.tail _ (.tail _ (.tail _ (.tail _ (.tail _ (.tail _ (.head _)))))))), mem_slab j _ (by decide) hj⟩
    · exact ⟨_, .tail _ (.tail _ (.tail _ (.tail _ (.tail _ (.tail _ (.tail _ (.tail _ (.tail _ (.head _))))))))), mem_slab j _ (by decide) hj⟩
    · exact ⟨_, .tail _ (.tail _ (.tail _ (.tail _ (.tail _ (.tail _ (.tail _ (.tail _ (.tail _ (.tail _ (.head _)))))))))), mem_slab j _ (by decide) hj⟩

end Block

end Cert.DN
-- ==== Proof.DN.Host.lean ====
module

public import proofs.«01_k».proof.Proof.Gen.DenseIdeal.Value
public import Idealize.ShloMosaic.Lib.Pipeline.ValueKit
public import Idealize.ShloMosaic.Lib.Pointwise

@[expose] public section

set_option maxRecDepth 16384

noncomputable section

namespace Cert.DN

open Idealize.ShloMosaic Idealize.ShloMosaic.TcCoe Idealize.SL.Sem
open Cert.DenseIdeal Cert.DenseIdeal.Gen

section Arrays
variable {F : FTy → Type} [FloatOps F]

/-- The first half of the attention's columns. -/
def firstOf (o : Vec F S16384x1024 .f32) : Vec F S16384x512 .bf16 :=
  truncf .bf16 (extractStridedSlice S16384x512 ![0, 0] o slices_S16384x1024_S16384x512_0_0 : Vec F S16384x512 .f32) bitsLt_bf16_f32

/-- The second half of the attention's columns, the heads interleaved. -/
def secondOf (o : Vec F S16384x1024 .f32) : Vec F S16384x512 .bf16 :=
  truncf .bf16 (shapeCast S16384x512 (transpose S16384x4x2x64 [0, 2, 1, 3]
    (shapeCast S16384x2x4x64 (extractStridedSlice S16384x512 ![0, 512] o slices_S16384x1024_S16384x512_0_512) shapeCasts_S16384x512_S16384x2x4x64)
      transposes_S16384x2x4x64_S16384x4x2x64_0_2_1_3) shapeCasts_S16384x4x2x64_S16384x512 : Vec F S16384x512 .f32) bitsLt_bf16_f32

/-- The projection's first rows. -/
def firstRows (w : Vec F S1024x1024 .f32) : Vec F S512x1024 .bf16 :=
  truncf .bf16 (extractStridedSlice S512x1024 ![0, 0] w slices_S1024x1024_S512x1024_0_0 : Vec F S512x1024 .f32) bitsLt_bf16_f32

/-- The order in which the heads are taken. -/
def headOrder : IVec S8x1 32 :=
  broadcastInDim S8x1 ![0] bcast_S8_S8x1_0 (select (constantI S8 1 0#1)
    (addi (fun i => lit0 (S8.rowMajor i)) (broadcastInDim S8 ![] bcast_S_S8 (constantI S_ 32 8#32))) (fun i => lit0 (S8.rowMajor i) : IVec S8 32))

/-- The projection's last rows, the heads in that order. -/
def secondRows (w : Vec F S1024x1024 .f32) : Vec F S512x1024 .bf16 :=
  truncf .bf16 (shapeCast S512x1024 (Host.gather gather_S8x64x1024_S8x1_S8x64x1024_12_0_n_n_0_1_1641024
    (shapeCast S8x64x1024 (extractStridedSlice S512x1024 ![512, 0] w slices_S1024x1024_S512x1024_512_0) shapeCasts_S512x1024_S8x64x1024) headOrder)
      shapeCasts_S8x64x1024_S512x1024 : Vec F S512x1024 .f32) bitsLt_bf16_f32

end Arrays

section Entry
variable {F : FTy → Type} [FloatOps F]
variable (m : (ℓ : Loc nD τ sig) → Buf (Elt F) ℓ) (c : Dev nD)

theorem V_first : V m c main_v4 = firstOf (m ((c : Thread nD τ).loc main_arg1)) := by
  unfold V
  simp only [hostOps0, List.flatten_cons, List.flatten_nil, List.append_nil, List.cons_append, List.nil_append]
  entry_read
  rfl

theorem V_second : V m c main_v9 = secondOf (m ((c : Thread nD τ).loc main_arg1)) := by
  unfold V
  simp only [hostOps0, List.flatten_cons, List.flatten_nil, List.append_nil, List.cons_append, List.nil_append]
  entry_read
  rfl

theorem V_firstRows : V m c main_v11 = firstRows (m ((c : Thread nD τ).loc main_arg2)) := by
  unfold V
  simp only [hostOps0, List.flatten_cons, List.flatten_nil, List.append_nil, List.cons_append, List.nil_append]
  entry_read
  rfl

theorem V_secondRows : V m c main_v20 = secondRows (m ((c : Thread nD τ).loc main_arg2)) := by
  unfold V
  simp only [hostOps0, List.flatten_cons, List.flatten_nil, List.append_nil, List.cons_append, List.nil_append]
  entry_read
  rfl

theorem V_gate : V m c main_v21 = (truncf .bf16 (m ((c : Thread nD τ).loc main_arg4) : Vec F S1024x2816 .f32) bitsLt_bf16_f32 : Vec F S1024x2816 .bf16) := by
  unfold V
  simp only [hostOps0, List.flatten_cons, List.flatten_nil, List.append_nil, List.cons_append, List.nil_append]
  entry_read
  rfl

theorem V_up : V m c main_v22 = (truncf .bf16 (m ((c : Thread nD τ).loc main_arg5) : Vec F S1024x2816 .f32) bitsLt_bf16_f32 : Vec F S1024x2816 .bf16) := by
  unfold V
  simp only [hostOps0, List.flatten_cons, List.flatten_nil, List.append_nil, List.cons_append, List.nil_append]
  entry_read
  rfl

theorem V_down : V m c main_v23 = (truncf .bf16 (m ((c : Thread nD τ).loc main_arg6) : Vec F S2816x1024 .f32) bitsLt_bf16_f32 : Vec F S2816x1024 .bf16) := by
  unfold V
  simp only [hostOps0, List.flatten_cons, List.flatten_nil, List.append_nil, List.cons_append, List.nil_append]
  entry_read
  rfl

theorem V_scale : V m c main_v24 = (shapeCast S1x1024 (m ((c : Thread nD τ).loc main_arg3) : Vec F S1024 .f32) shapeCasts_S1024_S1x1024 : Vec F S1x1024 .f32) := by
  unfold V
  simp only [hostOps0, List.flatten_cons, List.flatten_nil, List.append_nil, List.cons_append, List.nil_append]
  entry_read
  rfl

end Entry

section Read

/-- Where the interleaved column comes from. -/
def headSlot (k : Fin 512) : Fin 512 := ⟨k.val / 64 % 2 * 256 + k.val / 128 * 64 + k.val % 64, by omega⟩

theorem first_at (o : Vec Ideal S16384x1024 .f32) (r : Fin 16384) (k : Fin 512) : firstOf o (ix2 r k) = o (ix2 r ⟨k.val, by omega⟩) := by
  pointwise [firstOf]

theorem firstRows_at (w : Vec Ideal S1024x1024 .f32) (k : Fin 512) (j : Fin 1024) : firstRows w (ix2 k j) = w (ix2 ⟨k.val, by omega⟩ j) := by
  pointwise [firstRows]

theorem second_at (o : Vec Ideal S16384x1024 .f32) (r : Fin 16384) (k : Fin 512) : secondOf o (ix2 r k) = o (ix2 r ⟨512 + (headSlot k).val, by omega⟩) := by
  pointwise [secondOf]
  rfl

theorem scale_at (g : Vec Ideal S1024 .f32) (k : Fin 1024) :
    (shapeCast S1x1024 g shapeCasts_S1024_S1x1024 : Vec Ideal S1x1024 .f32) (ix2 0 k) = g (ix1 k) := by
  pointwise []

theorem gather_rows {α : Type} (x : S8x64x1024.Idx → α) (idx : IVec S8x1 32) (h : Fin 8) (n : Fin 64) (j : Fin 1024) :
    Host.gather gather_S8x64x1024_S8x1_S8x64x1024_12_0_n_n_0_1_1641024 x idx (ix3 h n j) = x (ix3 ⟨min (idx (ix2 h 0)).toInt.toNat 7, by omega⟩ n j) := by
  unfold Host.gather
  congr 1
  funext a
  refine Fin.ext ?_
  show gather_S8x64x1024_S8x1_S8x64x1024_12_0_n_n_0_1_1641024.start (ix3 h n j) idx a + gather_S8x64x1024_S8x1_S8x64x1024_12_0_n_n_0_1_1641024.batchCoord (ix3 h n j) a
    + gather_S8x64x1024_S8x1_S8x64x1024_12_0_n_n_0_1_1641024.offCoord (ix3 h n j) a = _
  rw [GatherDims.batchCoord_eq_zero _ _ _ List.not_mem_nil]
  match a with
  | ⟨1, h0⟩ | ⟨2, h0⟩ =>
    unfold GatherDims.start GatherDims.offCoord
    rw [dif_neg (by revert h0; decide), dif_pos (by revert h0; decide)]
    simp only [Nat.zero_add]
    rfl
  | ⟨0, h1⟩ =>
    rw [GatherDims.offCoord_eq_zero _ _ _ (by revert h1; decide)]
    unfold GatherDims.start
    rw [dif_pos (by revert h1; decide)]
    simp only [Nat.add_zero]
    have hs : ∀ c, gather_S8x64x1024_S8x1_S8x64x1024_12_0_n_n_0_1_1641024.siIdx (ix3 h n j) c = ix2 h 0 := by
      intro c
      funext b
      refine Fin.ext ?_
      match b with
      | ⟨0, _⟩ => rfl
      | ⟨1, _⟩ =>
        have : c.val < 1 := c.isLt
        show c.val = 0
        omega
    rw [hs]
    rfl

theorem headOrder_at : ∀ h : Fin 8, min (headOrder (ix2 h 0)).toInt.toNat 7 = h.val % 2 * 4 + h.val / 2 := by
  intro h
  have e : headOrder (ix2 h 0) = lit0 h := by
    pointwise [headOrder]
    fin_cases h <;> rfl
  rw [e]
  revert h
  decide

theorem secondRows_at (w : Vec Ideal S1024x1024 .f32) (k : Fin 512) (j : Fin 1024) : secondRows w (ix2 k j) = w (ix2 ⟨512 + (headSlot k).val, by omega⟩ j) := by
  pointwise [secondRows]
  rw [gather_rows]
  have e : (⟨min (headOrder (ix2 ⟨k.val / 64, by omega⟩ 0)).toInt.toNat 7, by omega⟩ : Fin 8) = ⟨k.val / 64 % 2 * 4 + k.val / 128, by omega⟩ :=
    Fin.ext ((headOrder_at ⟨k.val / 64, by omega⟩).trans (by show k.val / 64 % 2 * 4 + k.val / 64 / 2 = k.val / 64 % 2 * 4 + k.val / 128; rw [Nat.div_div_eq_div_mul]))
  rw [e]
  pointwise []
  congr 2
  exact Fin.ext (by show 512 + ((k.val / 64 % 2 * 4 + k.val / 128) * 64 + k.val % 64) = 512 + (k.val / 64 % 2 * 256 + k.val / 128 * 64 + k.val % 64); omega)

/-- Where a column goes to. -/
def slotOf (k : Fin 512) : Fin 512 := ⟨k.val / 64 % 4 * 128 + k.val / 256 * 64 + k.val % 64, by omega⟩

/-- The interleaved columns are all the columns, each once. -/
def headPerm : Fin 512 ≃ Fin 512 where
  toFun := headSlot
  invFun := slotOf
  left_inv := by decide +kernel
  right_inv := by decide +kernel

/-- The two halves of the projection together. -/
theorem projection (x : EReal) (f : Fin 1024 → EReal) :
    x + (∑ k : Fin 512, f ⟨k.val, by omega⟩) + (∑ k : Fin 512, f ⟨512 + (headSlot k).val, by omega⟩) = x + ∑ k, f k := by
  have e : (∑ k : Fin 512, f ⟨512 + (headSlot k).val, by omega⟩) = ∑ k : Fin 512, f ⟨512 + k.val, by omega⟩ :=
    Fintype.sum_equiv headPerm _ _ fun k => rfl
  rw [e, add_assoc]
  exact congrArg (x + ·) (Fin.sum_univ_add (a := 512) (b := 512) f).symm

end Read

end Cert.DN
-- ==== Proof.DN.KernelOut.lean ====
module

public import proofs.«01_k».proof.Proof.DN.Payload
public import proofs.«01_k».proof.Proof.DN.Host
public import Idealize.ShloMosaic.Lib.Pipeline.ValueKit

@[expose] public section

set_option maxRecDepth 16384

noncomputable section

namespace Cert.DN

open Idealize.ShloMosaic Idealize.ShloMosaic.TcCoe Idealize.SL.Sem
open Cert.DenseIdeal Cert.DenseIdeal.Gen

/-- A row of a grid point's block. -/
def rowOf (t : Fin cfg0.N) (r : Fin 256) : Fin 16384 := ⟨t.val % 64 * 256 + r.val, by omega⟩

theorem index_x : ∀ t : Fin cfg0.N, win0_0.index t = ![t.val % 64, 0] := (by decide +kernel : ∀ t : Fin grid0.N, _)
theorem index_oa : ∀ t : Fin cfg0.N, win0_1.index t = ![t.val % 64, 0] := (by decide +kernel : ∀ t : Fin grid0.N, _)
theorem index_ob : ∀ t : Fin cfg0.N, win0_2.index t = ![t.val % 64, 0] := (by decide +kernel : ∀ t : Fin grid0.N, _)
theorem index_wa : ∀ t : Fin cfg0.N, win0_3.index t = ![0, 0] := (by decide +kernel : ∀ t : Fin grid0.N, _)
theorem index_wb : ∀ t : Fin cfg0.N, win0_4.index t = ![0, 0] := (by decide +kernel : ∀ t : Fin grid0.N, _)
theorem index_scale : ∀ t : Fin cfg0.N, win0_5.index t = ![0, 0] := (by decide +kernel : ∀ t : Fin grid0.N, _)
theorem index_wg : ∀ t : Fin cfg0.N, win0_6.index t = ![0, 0] := (by decide +kernel : ∀ t : Fin grid0.N, _)
theorem index_wu : ∀ t : Fin cfg0.N, win0_7.index t = ![0, 0] := (by decide +kernel : ∀ t : Fin grid0.N, _)
theorem index_wd : ∀ t : Fin cfg0.N, win0_8.index t = ![0, 0] := (by decide +kernel : ∀ t : Fin grid0.N, _)
theorem index_y : ∀ t : Fin cfg0.N, win0_12.index t = ![t.val % 64, 0] := (by decide +kernel : ∀ t : Fin grid0.N, _)

variable (m : (ℓ : Loc nD τ sig) → Buf (Elt Ideal) ℓ) (c : Dev nD)

/-- The residual rows in memory. -/
abbrev rowsM : Vec Ideal S16384x1024 .f32 := m ((c : Thread nD τ).loc main_arg0)
/-- The attention's rows in memory. -/
abbrev attnM : Vec Ideal S16384x1024 .f32 := m ((c : Thread nD τ).loc main_arg1)
/-- The attention's projection in memory. -/
abbrev projM : Vec Ideal S1024x1024 .f32 := m ((c : Thread nD τ).loc main_arg2)
/-- The norm's scale in memory. -/
abbrev scaleM : Vec Ideal S1024 .f32 := m ((c : Thread nD τ).loc main_arg3)
/-- The gate projection in memory. -/
abbrev gateM : Vec Ideal S1024x2816 .f32 := m ((c : Thread nD τ).loc main_arg4)
/-- The up projection in memory. -/
abbrev upM : Vec Ideal S1024x2816 .f32 := m ((c : Thread nD τ).loc main_arg5)
/-- The down projection in memory. -/
abbrev downM : Vec Ideal S2816x1024 .f32 := m ((c : Thread nD τ).loc main_arg6)

theorem block_x (t : Fin cfg0.N) (r : Fin 256) (k : Fin 1024) :
    (iblk m c 0 t : Vec Ideal S256x1024 .f32) (ix2 r k) = rowsM m c (ix2 (rowOf t r) k) := by
  have e : (iblk m c 0 t : Vec Ideal S256x1024 .f32) (ix2 r k) = V m c main_arg0 (ix2 (rowOf t r) k) := by
    blk_simp [iblk]
    congr 1
    blk_ext [index_x t, rowOf]
  rw [e, V_main_arg0]

theorem block_oa (t : Fin cfg0.N) (r : Fin 256) (k : Fin 512) :
    (iblk m c 1 t : Vec Ideal S256x512 .bf16) (ix2 r k) = attnM m c (ix2 (rowOf t r) ⟨k.val, by omega⟩) := by
  have e : (iblk m c 1 t : Vec Ideal S256x512 .bf16) (ix2 r k) = V m c main_v4 (ix2 (rowOf t r) k) := by
    blk_simp [iblk]
    congr 1
    blk_ext [index_oa t, rowOf]
  rw [e, V_first, first_at]

theorem block_ob (t : Fin cfg0.N) (r : Fin 256) (k : Fin 512) :
    (iblk m c 2 t : Vec Ideal S256x512 .bf16) (ix2 r k) = attnM m c (ix2 (rowOf t r) ⟨512 + (headSlot k).val, by omega⟩) := by
  have e : (iblk m c 2 t : Vec Ideal S256x512 .bf16) (ix2 r k) = V m c main_v9 (ix2 (rowOf t r) k) := by
    blk_simp [iblk]
    congr 1
    blk_ext [index_ob t, rowOf]
  rw [e, V_second, second_at]

theorem block_wa (t : Fin cfg0.N) (k : Fin 512) (j : Fin 1024) :
    (iblk m c 3 t : Vec Ideal S512x1024 .bf16) (ix2 k j) = projM m c (ix2 ⟨k.val, by omega⟩ j) := by
  have e : (iblk m c 3 t : Vec Ideal S512x1024 .bf16) (ix2 k j) = V m c main_v11 (ix2 k j) := by
    blk_simp [iblk]
    congr 1
    blk_ext [index_wa t]
  rw [e, V_firstRows, firstRows_at]

theorem block_wb (t : Fin cfg0.N) (k : Fin 512) (j : Fin 1024) :
    (iblk m c 4 t : Vec Ideal S512x1024 .bf16) (ix2 k j) = projM m c (ix2 ⟨512 + (headSlot k).val, by omega⟩ j) := by
  have e : (iblk m c 4 t : Vec Ideal S512x1024 .bf16) (ix2 k j) = V m c main_v20 (ix2 k j) := by
    blk_simp [iblk]
    congr 1
    blk_ext [index_wb t]
  rw [e, V_secondRows, secondRows_at]

theorem block_scale (t : Fin cfg0.N) (k : Fin 1024) :
    (iblk m c 5 t : Vec Ideal S1x1024 .f32) (ix2 0 k) = scaleM m c (ix1 k) := by
  have e : (iblk m c 5 t : Vec Ideal S1x1024 .f32) (ix2 0 k) = V m c main_v24 (ix2 0 k) := by
    blk_simp [iblk]
    congr 1
    blk_ext [index_scale t]
  rw [e, V_scale, scale_at]

theorem block_wg (t : Fin cfg0.N) (k : Fin 1024) (f : Fin 2816) :
    (iblk m c 6 t : Vec Ideal S1024x2816 .bf16) (ix2 k f) = gateM m c (ix2 k f) := by
  have e : (iblk m c 6 t : Vec Ideal S1024x2816 .bf16) (ix2 k f) = V m c main_v21 (ix2 k f) := by
    blk_simp [iblk]
    congr 1
    blk_ext [index_wg t]
  rw [e, V_gate]
  rfl

theorem block_wu (t : Fin cfg0.N) (k : Fin 1024) (f : Fin 2816) :
    (iblk m c 7 t : Vec Ideal S1024x2816 .bf16) (ix2 k f) = upM m c (ix2 k f) := by
  have e : (iblk m c 7 t : Vec Ideal S1024x2816 .bf16) (ix2 k f) = V m c main_v22 (ix2 k f) := by
    blk_simp [iblk]
    congr 1
    blk_ext [index_wu t]
  rw [e, V_up]
  rfl

theorem block_wd (t : Fin cfg0.N) (f : Fin 2816) (j : Fin 1024) :
    (iblk m c 8 t : Vec Ideal S2816x1024 .bf16) (ix2 f j) = downM m c (ix2 f j) := by
  have e : (iblk m c 8 t : Vec Ideal S2816x1024 .bf16) (ix2 f j) = V m c main_v23 (ix2 f j) := by
    blk_simp [iblk]
    congr 1
    blk_ext [index_wd t]
  rw [e, V_down]
  rfl

/-- The residual row after the attention. -/
def attended (x o : Vec Ideal S16384x1024 .f32) (w : Vec Ideal S1024x1024 .f32) (r : Fin 16384) (j : Fin 1024) : EReal :=
  x (ix2 r j) + ∑ k : Fin 1024, o (ix2 r k) * w (ix2 k j)

/-- The dense layer's answer as one array. -/
def result (x o : Vec Ideal S16384x1024 .f32) (w : Vec Ideal S1024x1024 .f32) (g : Vec Ideal S1024 .f32)
    (wg wu : Vec Ideal S1024x2816 .f32) (wd : Vec Ideal S2816x1024 .f32) : Vec Ideal S16384x1024 .f32 := fun i =>
  denseRow (attended x o w (i 0)) (fun k => g (ix1 k)) (fun k f => wg (ix2 k f)) (fun k f => wu (ix2 k f)) (fun f => wd (ix2 f (i 1))) (i 1)

theorem block_residual (t : Fin cfg0.N) (r : Fin 256) (j : Fin 1024) :
    k0_pay5 (iblk m c 0 t : Vec Ideal S256x1024 .f32) (iblk m c 1 t : Vec Ideal S256x512 .bf16) (iblk m c 3 t : Vec Ideal S512x1024 .bf16)
      (iblk m c 2 t : Vec Ideal S256x512 .bf16) (iblk m c 4 t : Vec Ideal S512x1024 .bf16) (ix2 r j)
      = attended (rowsM m c) (attnM m c) (projM m c) (rowOf t r) j := by
  rw [residual_at]
  simp only [block_x, block_oa, block_ob, block_wa, block_wb]
  exact projection _ fun k => attnM m c (ix2 (rowOf t r) k) * projM m c (ix2 k j)

theorem block_answer (t : Fin cfg0.N) (r : Fin 256) (j : Fin 1024) (x : Vec Ideal S256x1024 .f32) (oa : Vec Ideal S256x512 .bf16) (ob : Vec Ideal S256x512 .bf16)
    (wa wb : Vec Ideal S512x1024 .bf16) (g : Vec Ideal S1x1024 .f32) (wg wu : Vec Ideal S1024x2816 .bf16) (wd : Vec Ideal S2816x1024 .bf16)
    (hy : ∀ j, k0_pay5 x oa wa ob wb (ix2 r j) = attended (rowsM m c) (attnM m c) (projM m c) (rowOf t r) j)
    (hg : ∀ k, g (ix2 0 k) = scaleM m c (ix1 k)) (hwg : ∀ k f, wg (ix2 k f) = gateM m c (ix2 k f)) (hwu : ∀ k f, wu (ix2 k f) = upM m c (ix2 k f))
    (hwd : ∀ f j, wd (ix2 f j) = downM m c (ix2 f j)) :
    k0_pay1 (k0_pay5 x oa wa ob wb) (slabs (k0_pay8 (k0_pay5 x oa wa ob wb) (k0_pay6 g) (k0_pay7 x oa wa ob wb)) wg wu) wd (ix2 r j)
      = result (rowsM m c) (attnM m c) (projM m c) (scaleM m c) (gateM m c) (upM m c) (downM m c) (ix2 (rowOf t r) j) := by
  rw [answer_at]
  have hs : ∀ f : Fin 2816, slabs (k0_pay8 (k0_pay5 x oa wa ob wb) (k0_pay6 g) (k0_pay7 x oa wa ob wb)) wg wu (ix2 r f)
      = Cert.EX.hidden (normed (attended (rowsM m c) (attnM m c) (projM m c) (rowOf t r)) (fun k => scaleM m c (ix1 k)))
          (fun k => gateM m c (ix2 k f)) (fun k => upM m c (ix2 k f)) := by
    intro f
    show Cert.EX.hidden (fun k => k0_pay8 (k0_pay5 x oa wa ob wb) (k0_pay6 g) (k0_pay7 x oa wa ob wb) (ix2 r k)) (fun k => wg (ix2 k f)) (fun k => wu (ix2 k f)) = _
    simp only [normed_at _ g _ r (squares_at x oa wa ob wb r), hy, hg, hwg, hwu]
  simp only [hs, hy, hwd]
  rfl

theorem kernel_out :
    (dats m 0 c).arrAt 12 cfg0.N = result (rowsM m c) (attnM m c) (projM m c) (scaleM m c) (gateM m c) (upM m c) (downM m c) := by
  refine (dats m 0 c).arrAt_eq_of_covers 12 _ (by decide +kernel) fun t hf y => ?_
  blk_simp
  rw [after0_12]
  unfold outsAt0
  dsimp only
  rw [out_block]
  idx_vars y
  have e : ((View.whole main_v25_0).slice (win0_12.rect t)).emb (ix2 y0 y1) = ix2 (rowOf t y0) y1 := by
    blk_ext [index_y t, rowOf]
  rw [e]
  exact block_answer m c t y0 y1 _ _ _ _ _ _ _ _ _ (block_residual m c t y0) (block_scale m c t) (block_wg m c t) (block_wu m c t) (block_wd m c t)

end Cert.DN
-- ==== Proof.DN.RefRead.lean ====
module

public import proofs.«01_k».proof.Proof.Gen.DenseReferenceIdeal.Read
public import proofs.«01_k».proof.Proof.DN.KernelOut

@[expose] public section

set_option maxRecDepth 16384

noncomputable section

namespace Cert.DN

open Idealize.ShloMosaic Idealize.ShloMosaic.TcCoe Idealize.SL.Sem
open Cert.DenseReferenceIdeal Cert.DenseReferenceIdeal.Gen Cert.DenseReferenceIdeal.Read

variable (x o : Vec Ideal S16384x1024 .f32) (w : Vec Ideal S1024x1024 .f32) (g : Vec Ideal S1024 .f32)
  (wg wu : Vec Ideal S1024x2816 .f32) (wd : Vec Ideal S2816x1024 .f32)

theorem ref_attended (r : Fin 16384) (j : Fin 1024) : val_main_v1 (F := Ideal) x o w (ix2 r j) = attended x o w r j := by
  pointwise [val_main_v1, val_main_v0]
  rfl

theorem ref_squares (r : Fin 16384) : val_main_v3 (F := Ideal) x o w (ix1 r) = ∑ j, attended x o w r j * attended x o w r j := by
  pointwise [val_main_v3, val_main_v2, val_main_cst]
  simp only [ref_attended]

theorem ref_normed (r : Fin 16384) (k : Fin 1024) :
    val_main_v14 (F := Ideal) x o w g (ix2 r k) = normed (attended x o w r) (fun k => g (ix1 k)) k := by
  pointwise [val_main_v14, val_main_v13, val_main_v12, val_main_v11, val_main_v10, val_main_v9, val_main_v8, val_main_v7, val_main_cst_1,
    val_main_v6, val_main_v5, val_main_cst_0, val_main_v4]
  rw [ref_attended, ref_squares]
  rfl

theorem ref_hidden (r : Fin 16384) (f : Fin 2816) :
    val_main_v18 (F := Ideal) x o w g wg wu (ix2 r f) = Cert.EX.hidden (normed (attended x o w r) (fun k => g (ix1 k)))
      (fun k => wg (ix2 k f)) (fun k => wu (ix2 k f)) := by
  pointwise [val_main_v18, val_main_v17, val_main_v16, val_main_call0_v5, val_main_call0_v4, val_main_call0_v3, val_main_call0_v2, val_main_call0_v1,
    val_main_call0_v0, val_main_call0_cst, val_main_call0_cst_0, val_main_v15]
  simp only [ref_normed]
  rfl

theorem ref_result : val_main_v20 (F := Ideal) x o w g wg wu wd = result x o w g wg wu wd := by
  funext i
  idx_vars i
  pointwise [val_main_v20, val_main_v19]
  simp only [ref_hidden, ref_attended]
  rfl

end Cert.DN
-- ==== Proof.NA.Gather.lean ====
module

public import proofs.«01_k».proof.Proof.Gen.KernelIdeal
public import proofs.«01_k».proof.Proof.Gen.ReferenceIdeal
public import Idealize.ShloMosaic.Lib.Pointwise

@[expose] public section

noncomputable section

namespace Cert.NA

open Idealize.ShloMosaic

section Reference
open Cert.ReferenceIdeal Cert.ReferenceIdeal.Gen

/-- The dimensions of the reference's bias gather. -/
abbrev biasDims := gather_S16x465_S4096x4096x1_S16x4096x4096_0_1_n_n_1_2_161

/-- The reference's bias gather, read at a head, a query and a key. -/
theorem gather_bias {α : Type} (x : S16x465.Idx → α) (idx : IVec S4096x4096x1 32) (h : Fin 16) (n m : Fin 4096) :
    Host.gather biasDims x idx (ix3 h n m) = x (ix2 h ⟨min (idx (ix3 n m 0)).toInt.toNat 464, by omega⟩) := by
  unfold Host.gather
  congr 1
  funext a
  refine Fin.ext ?_
  show biasDims.start (ix3 h n m) idx a + biasDims.batchCoord (ix3 h n m) a + biasDims.offCoord (ix3 h n m) a = _
  rw [GatherDims.batchCoord_eq_zero _ _ _ List.not_mem_nil]
  match a with
  | ⟨0, h0⟩ =>
    unfold GatherDims.start GatherDims.offCoord
    rw [dif_neg (by revert h0; decide), dif_pos (by revert h0; decide)]
    simp only [Nat.zero_add]
    rfl
  | ⟨1, h1⟩ =>
    rw [GatherDims.offCoord_eq_zero _ _ _ (by revert h1; decide)]
    unfold GatherDims.start
    rw [dif_pos (by revert h1; decide)]
    simp only [Nat.add_zero]
    have hs : ∀ c, biasDims.siIdx (ix3 h n m) c = ix3 n m 0 := by
      intro c
      funext b
      refine Fin.ext ?_
      match b with
      | ⟨0, _⟩ => rfl
      | ⟨1, _⟩ => rfl
      | ⟨2, _⟩ =>
        have : c.val < 1 := c.isLt
        show c.val = 0
        omega
    rw [hs]
    rfl

end Reference

section Kernel
open Cert.KernelIdeal Cert.KernelIdeal.Gen

/-- The dimensions of the table's gather. -/
abbrev tableDims := gather_S8x2x14x62_S64x128x1_S8x2x14x64x128_012_3_n_n_3_2_82141

/-- The gather of the kernel's bias table along the column offset. -/
theorem gather_table {α : Type} (x : S8x2x14x62.Idx → α) (idx : IVec S64x128x1 32) (p : Fin 8) (e : Fin 2)
    (d : Fin 14) (n : Fin 64) (m : Fin 128) :
    Host.gather tableDims x idx (ix5 p e d n m) = x (ix4 p e d ⟨min (idx (ix3 n m 0)).toInt.toNat 61, by omega⟩) := by
  unfold Host.gather
  congr 1
  funext a
  refine Fin.ext ?_
  show tableDims.start (ix5 p e d n m) idx a + tableDims.batchCoord (ix5 p e d n m) a + tableDims.offCoord (ix5 p e d n m) a = _
  rw [GatherDims.batchCoord_eq_zero _ _ _ List.not_mem_nil]
  match a with
  | ⟨0, h0⟩ | ⟨1, h0⟩ | ⟨2, h0⟩ =>
    unfold GatherDims.start GatherDims.offCoord
    rw [dif_neg (by revert h0; decide), dif_pos (by revert h0; decide)]
    simp only [Nat.zero_add]
    rfl
  | ⟨3, h1⟩ =>
    rw [GatherDims.offCoord_eq_zero _ _ _ (by revert h1; decide)]
    unfold GatherDims.start
    rw [dif_pos (by revert h1; decide)]
    simp only [Nat.add_zero]
    have hs : ∀ c, tableDims.siIdx (ix5 p e d n m) c = ix3 n m 0 := by
      intro c
      funext b
      refine Fin.ext ?_
      match b with
      | ⟨0, _⟩ => rfl
      | ⟨1, _⟩ => rfl
      | ⟨2, _⟩ =>
        have : c.val < 1 := c.isLt
        show c.val = 0
        omega
    rw [hs]
    rfl

end Kernel

end Cert.NA
-- ==== Proof.NA.HostPrep.lean ====
module

public import proofs.«01_k».proof.Proof.Gen.KernelIdeal.Value
public import proofs.«01_k».proof.Proof.NA.Gather
public import Idealize.ShloMosaic.Lib.Pipeline.ValueKit
public import Idealize.ShloMosaic.Lib.Pointwise

@[expose] public section

set_option maxRecDepth 16384

noncomputable section

namespace Cert.NA

open Idealize.ShloMosaic Idealize.ShloMosaic.TcCoe Idealize.SL.Sem
open Cert.KernelIdeal Cert.KernelIdeal.Gen

variable {F : FTy → Type} [FloatOps F]

/-- The number 1 / log 2, as the host computes it. -/
def log2e : Vec F S_ .f32 := Host.divf (constant S_ .f32 0x3F800000#32) (Host.log (constant S_ .f32 0x40000000#32))

/-- The queries scaled, the keys and the values, side by side. -/
def qkvOf (q k v : Vec F S4x4096x1024 .f32) : Vec F S4x4096x3072 .bf16 :=
  truncf .bf16 (concatenate S4x4096x3072 2
    [⟨S4x4096x1024, mulf q (broadcastInDim S4x4096x1024 ![] bcast_S_S4x4096x1024 (mulf (constant S_ .f32 0x3E000000#32) log2e))⟩,
      ⟨S4x4096x1024, k⟩, ⟨S4x4096x1024, v⟩] concatenates_S4x4096x1024_S4x4096x1024_S4x4096x1024_S4x4096x3072_d2) bitsLt_bf16_f32

/-- The query column's number. -/
def colQuery : IVec S64x1 32 := broadcastInDim S64x1 ![0] bcast_S64_S64x1_0 (iotaInDim S64 32 0)

/-- The key column's number. -/
def colKey : IVec S1x64 32 := broadcastInDim S1x64 ![1] bcast_S64_S1x64_1 (iotaInDim S64 32 0)

/-- The first key column of a query column's window. -/
def colFirst : IVec S64x1 32 :=
  minsi (broadcastInDim S64x1 ![] bcast_S_S64x1 (constantI S_ 32 48#32))
    (maxsi (broadcastInDim S64x1 ![] bcast_S_S64x1 (constantI S_ 32 0#32))
      (subi colQuery (broadcastInDim S64x1 ![] bcast_S_S64x1 (constantI S_ 32 8#32))))

/-- Whether a key column lies in a query column's window. -/
def colMask : IVec S64x64 1 :=
  andi (cmpi .sge (broadcastInDim S64x64 ![0, 1] bcast_S1x64_S64x64_0_1 colKey)
      (broadcastInDim S64x64 ![0, 1] bcast_S64x1_S64x64_0_1 colFirst))
    (cmpi .slt (broadcastInDim S64x64 ![0, 1] bcast_S1x64_S64x64_0_1 colKey)
      (broadcastInDim S64x64 ![0, 1] bcast_S64x1_S64x64_0_1
        (addi colFirst (broadcastInDim S64x1 ![] bcast_S_S64x1 (constantI S_ 32 16#32)))))

/-- The bias table's column for a query column and a key column. -/
def colOffset : IVec S64x64 32 :=
  subi (addi
      (minsi (broadcastInDim S64x64 ![] bcast_S_S64x64 (constantI S_ 32 15#32))
        (maxsi (broadcastInDim S64x64 ![] bcast_S_S64x64 (constantI S_ 32 4294967281#32))
          (subi (broadcastInDim S64x64 ![0, 1] bcast_S1x64_S64x64_0_1 colKey)
            (broadcastInDim S64x64 ![0, 1] bcast_S64x1_S64x64_0_1 colQuery))))
      (broadcastInDim S64x64 ![] bcast_S_S64x64 (constantI S_ 32 16#32)))
    (broadcastInDim S64x64 ![] bcast_S_S64x64 (constantI S_ 32 1#32))

/-- The same for two key rows side by side: the second row's columns lie 31 further. -/
def colOffset2 : IVec S64x128 32 :=
  concatenate S64x128 1 [⟨S64x64, colOffset⟩,
    ⟨S64x64, addi colOffset (broadcastInDim S64x64 ![] bcast_S_S64x64 (constantI S_ 32 31#32))⟩] concatenates_S64x64_S64x64_S64x128_d1

/-- The bias scaled by 1 / log 2. -/
def biasScaled (rpb : Vec F S16x15x31 .f32) : Vec F S16x15x31 .f32 :=
  mulf rpb (broadcastInDim S16x15x31 ![] bcast_S_S16x15x31 log2e)

/-- Two neighbouring bias rows side by side, the heads in pairs. -/
def biasRows (rpb : Vec F S16x15x31 .f32) : Vec F S8x2x14x62 .f32 :=
  shapeCast S8x2x14x62 (concatenate S16x14x62 2
    [⟨S16x14x31, extractStridedSlice S16x14x31 ![0, 0, 0] (biasScaled rpb) slices_S16x15x31_S16x14x31_0_0_0⟩,
      ⟨S16x14x31, extractStridedSlice S16x14x31 ![0, 1, 0] (biasScaled rpb) slices_S16x15x31_S16x14x31_0_1_0⟩]
    concatenates_S16x14x31_S16x14x31_S16x14x62_d2) shapeCasts_S16x14x62_S8x2x14x62

/-- The mask for two key rows side by side. -/
def colMask2 : IVec S64x128 1 :=
  shapeCast S64x128 (broadcastInDim S1x64x2x64 ![0, 1, 2, 3] bcast_S1x64x1x64_S1x64x2x64_0_1_2_3
    (shapeCast S1x64x1x64 colMask shapeCasts_S64x64_S1x64x1x64)) shapeCasts_S1x64x2x64_S64x128

/-- The bias read per pair of heads, first bias row and head of the pair. -/
def biasGathered (rpb : Vec F S16x15x31 .f32) : Vec F S8x2x14x64x128 .f32 :=
  Host.gather gather_S8x2x14x62_S64x128x1_S8x2x14x64x128_012_3_n_n_3_2_82141 (biasRows rpb)
    (broadcastInDim S64x128x1 ![0, 1] bcast_S64x128_S64x128x1_0_1 colOffset2)

/-- The bias table the kernel is given. -/
def biasTable (rpb : Vec F S16x15x31 .f32) : Vec F S8x14x128x128 .f32 :=
  shapeCast S8x14x128x128 (select (broadcastInDim S8x14x2x64x128 ![3, 4] bcast_S64x128_S8x14x2x64x128_3_4 colMask2)
    (transpose S8x14x2x64x128 [0, 2, 1, 3, 4] (biasGathered rpb) transposes_S8x2x14x64x128_S8x14x2x64x128_0_2_1_3_4)
    (broadcastInDim S8x14x2x64x128 ![] bcast_S_S8x14x2x64x128 (constant S_ .f32 0xFF800000#32))) shapeCasts_S8x14x2x64x128_S8x14x128x128

section Entry
variable (m : (ℓ : Loc nD τ sig) → Buf (Elt F) ℓ) (c : Dev nD)

/-- Running two lists of host operations one after the other. -/
theorem after_append {Val : EltTy → Type} (l l' : List (HloOp τ sig Val)) (σ : Valuation τ sig Val) :
    StableHlo.after (l ++ l') σ = StableHlo.after l' (StableHlo.after l σ) := by
  induction l generalizing σ with
  | nil => rfl
  | cons op l ih => exact ih _

/-- The operations after the first line leave the array of queries, keys and values alone. -/
theorem V_qkv_first : V m c main_v6 = StableHlo.after hostOps0 (fun b => m (c, b)) (Proc.devRef .tc main_v6) := by
  unfold V
  rw [List.flatten_cons, after_append]
  exact StableHlo.after_of_forall_not_mem (b := Proc.devRef .tc main_v6) _ _ (List.forall_iff_forall_mem.mp (by
    simp only [hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The operations up to the scaled queries. -/
abbrev opsScale : List (HloOp τ sig (Elt F)) := (hostOps0 (F := F)).take 8

/-- The operations that put queries, keys and values side by side. -/
abbrev opsJoin : List (HloOp τ sig (Elt F)) := ((hostOps0 (F := F)).drop 8).take 2

/-- The operations after those. -/
abbrev opsRest : List (HloOp τ sig (Elt F)) := (hostOps0 (F := F)).drop 10

theorem hostOps0_split : (hostOps0 : List (HloOp τ sig (Elt F))) = opsScale ++ (opsJoin ++ opsRest) := rfl

theorem scaled_queries : StableHlo.after opsScale (fun b => m (c, b)) (Proc.devRef .tc main_v4)
    = (mulf (m ((c : Thread nD τ).loc main_arg0)) (broadcastInDim S4x4096x1024 ![] bcast_S_S4x4096x1024 (mulf (constant S_ .f32 0x3E000000#32) log2e)) : Vec F S4x4096x1024 .f32) := by
  simp only [opsScale, hostOps0, List.take_succ_cons, List.take_zero]
  entry_read
  rfl

theorem scale_arg1 : StableHlo.after opsScale (fun b => m (c, b)) (Proc.devRef .tc main_arg1) = m ((c : Thread nD τ).loc main_arg1) :=
  StableHlo.after_of_forall_not_mem (b := Proc.devRef .tc main_arg1) _ _ (List.forall_iff_forall_mem.mp (by
    simp only [opsScale, hostOps0, List.take_succ_cons, List.take_zero, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem scale_arg2 : StableHlo.after opsScale (fun b => m (c, b)) (Proc.devRef .tc main_arg2) = m ((c : Thread nD τ).loc main_arg2) :=
  StableHlo.after_of_forall_not_mem (b := Proc.devRef .tc main_arg2) _ _ (List.forall_iff_forall_mem.mp (by
    simp only [opsScale, hostOps0, List.take_succ_cons, List.take_zero, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Side by side, from any contents. -/
theorem joined (σ : Valuation τ sig (Elt F)) : StableHlo.after opsJoin σ (Proc.devRef .tc main_v6)
    = (truncf .bf16 (concatenate S4x4096x3072 2 [⟨S4x4096x1024, (σ (Proc.devRef .tc main_v4) : Vec F S4x4096x1024 .f32)⟩,
        ⟨S4x4096x1024, (σ (Proc.devRef .tc main_arg1) : Vec F S4x4096x1024 .f32)⟩, ⟨S4x4096x1024, (σ (Proc.devRef .tc main_arg2) : Vec F S4x4096x1024 .f32)⟩]
        concatenates_S4x4096x1024_S4x4096x1024_S4x4096x1024_S4x4096x3072_d2) bitsLt_bf16_f32 : Vec F S4x4096x3072 .bf16) := by
  simp only [opsJoin, hostOps0, List.drop_succ_cons, List.drop_zero, List.take_succ_cons, List.take_zero, StableHlo.after_cons, StableHlo.after_nil]
  rw [StableHlo.unary_result, StableHlo.nary_result]
  rfl

theorem V_qkv : V m c main_v6 = qkvOf (m ((c : Thread nD τ).loc main_arg0)) (m ((c : Thread nD τ).loc main_arg1)) (m ((c : Thread nD τ).loc main_arg2)) := by
  rw [V_qkv_first, hostOps0_split, after_append, after_append]
  rw [StableHlo.after_of_forall_not_mem (b := Proc.devRef .tc main_v6) opsRest _ (List.forall_iff_forall_mem.mp (by
    simp only [opsRest, hostOps0, List.drop_succ_cons, List.drop_zero, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))]
  rw [joined, scaled_queries, scale_arg1, scale_arg2]
  rfl

set_option maxHeartbeats 1600000 in
theorem V_bias : V m c main_v48 = biasTable (m ((c : Thread nD τ).loc main_arg3)) := by
  unfold V
  simp only [hostOps0, hostOps0_1, hostOps0_2, hostOps0_3, hostOps0_4, hostOps0_5, hostOps0_6, hostOps0_7, hostOps0_8, List.flatten_cons, List.flatten_nil, List.append_nil, List.cons_append,
      List.nil_append]
  entry_read
  rfl

end Entry

end Cert.NA
-- ==== Proof.NA.Softmax.lean ====
module

public import Idealize.ShloMosaic.PureOps.Ideal
public import Idealize.ShloMosaic.Lib.Pointwise

@[expose] public section

noncomputable section

namespace Cert.NA

open Idealize.ShloMosaic

/-- Attention over the keys that are `valid`, with real logits `x`: the softmax weights times the values. -/
def attn {ι : Type} [Fintype ι] (valid : ι → Bool) (x : ι → ℝ) (v : ι → EReal) : EReal :=
  ∑ n, (if valid n then ((Real.exp (x n) / ∑ j, if valid j then Real.exp (x j) else 0 : ℝ) : EReal) else 0) * v n

theorem attn_of_injective {ι κ : Type} [Fintype ι] [Fintype κ] (e : κ → ι) (he : Function.Injective e)
    (valid : ι → Bool) (x : ι → ℝ) (v : ι → EReal) (hv : ∀ n, valid n = true → ∃ j, e j = n) :
    attn (fun j => valid (e j)) (fun j => x (e j)) (fun j => v (e j)) = attn valid x v := by
  have hz : ∀ n, n ∉ Set.range e → valid n = false := fun n hn => by
    by_contra h
    exact hn (hv n (by simpa using h))
  have hZ : (∑ j, if valid (e j) then Real.exp (x (e j)) else 0) = ∑ n, if valid n then Real.exp (x n) else 0 :=
    Fintype.sum_of_injective e he _ _ (fun n hn => by simp [hz n hn]) fun _ => rfl
  unfold attn
  rw [hZ]
  exact Fintype.sum_of_injective e he _ _ (fun n hn => by simp [hz n hn]) fun _ => rfl

theorem sum_coe {ι : Type} (s : Finset ι) (f : ι → ℝ) : (∑ n ∈ s, (f n : EReal)) = ((∑ n ∈ s, f n : ℝ) : EReal) := by
  classical
  induction s using Finset.induction_on with
  | empty => simp
  | insert a s ha ih => rw [Finset.sum_insert ha, Finset.sum_insert ha, ih, EReal.coe_add]

theorem mul_sum_of_nonneg {ι : Type} (s : Finset ι) (c : ℝ) (hc : 0 ≤ c) (f : ι → EReal) :
    (c : EReal) * ∑ n ∈ s, f n = ∑ n ∈ s, (c : EReal) * f n := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- The maximum of logits of which at least one is a real number and the others are minus infinity is real. -/
theorem fold_max_real {ι : Type} [Fintype ι] (valid : ι → Bool) (x : ι → ℝ) (n₀ : ι) (h₀ : valid n₀ = true) :
    ∃ M : ℝ, (Finset.univ.fold max (⊥ : EReal) fun n => if valid n then (x n : EReal) else ⊥) = (M : EReal) := by
  have key : ∀ s : Finset ι, n₀ ∈ s → ∃ M : ℝ, (s.fold max (⊥ : EReal) fun n => if valid n then (x n : EReal) else ⊥) = (M : EReal) := by
    classical
    have any : ∀ s : Finset ι, (s.fold max (⊥ : EReal) fun n => if valid n then (x n : EReal) else ⊥) = ⊥
        ∨ ∃ M : ℝ, (s.fold max (⊥ : EReal) fun n => if valid n then (x n : EReal) else ⊥) = (M : EReal) := by
      intro s
      induction s using Finset.induction_on with
      | empty => left; simp
      | insert a s ha ih =>
        rw [Finset.fold_insert ha]
        rcases ih with ih | ⟨M, ih⟩ <;> rw [ih] <;> cases valid a
        · left; simp
        · right; exact ⟨x a, by simp⟩
        · right; exact ⟨M, by simp⟩
        · right; exact ⟨max (x a) M, by simp only [if_true]; exact (EReal.coe_strictMono.monotone.map_max).symm⟩
    intro s hs
    rcases any s with h | h
    · exfalso
      have : ((x n₀ : ℝ) : EReal) ≤ s.fold max (⊥ : EReal) fun n => if valid n then (x n : EReal) else ⊥ :=
        (Finset.le_fold_max _).2 (Or.inr ⟨n₀, hs, by simp [h₀]⟩)
      rw [h] at this
      exact absurd this (by simp)
    · exact h
  exact key _ (Finset.mem_univ _)

/-- The row sum of the weights `exp (x n) * c`. -/
theorem weights_sum {ι : Type} [Fintype ι] (valid : ι → Bool) (x : ι → ℝ) (c : ℝ) :
    (∑ n, if valid n then ((Real.exp (x n) * c : ℝ) : EReal) else 0)
      = (((∑ n, if valid n then Real.exp (x n) else 0) * c : ℝ) : EReal) := by
  rw [Finset.sum_mul, ← sum_coe]
  refine Finset.sum_congr rfl fun n _ => ?_
  cases valid n <;> simp

theorem weights_pos {ι : Type} [Fintype ι] (valid : ι → Bool) (x : ι → ℝ) (n₀ : ι) (h₀ : valid n₀ = true) :
    0 < ∑ n, if valid n then Real.exp (x n) else 0 :=
  Finset.sum_pos' (fun n _ => by split <;> positivity) ⟨n₀, Finset.mem_univ _, by simp [h₀, Real.exp_pos]⟩

/-- Normalising the weights first gives the attention, whatever common factor they carry. -/
theorem attn_of_weights {ι : Type} [Fintype ι] (valid : ι → Bool) (x : ι → ℝ) (v : ι → EReal) (c : ℝ) (hc : 0 < c)
    (n₀ : ι) (h₀ : valid n₀ = true) :
    (∑ n, Ideal.div (if valid n then ((Real.exp (x n) * c : ℝ) : EReal) else 0)
        (∑ j, if valid j then ((Real.exp (x j) * c : ℝ) : EReal) else 0) * v n) = attn valid x v := by
  have hZ := weights_pos valid x n₀ h₀
  rw [weights_sum]
  refine Finset.sum_congr rfl fun n _ => ?_
  rw [Ideal.div_coe (by positivity)]
  congr 1
  cases valid n
  · simp
  · simp only [if_true]
    rw [← EReal.coe_mul]
    congr 1
    field_simp

/-- So does multiplying the row sum's reciprocal in after the sum over the keys. -/
theorem attn_of_sums {ι : Type} [Fintype ι] (valid : ι → Bool) (x : ι → ℝ) (v : ι → EReal) (c : ℝ) (hc : 0 < c)
    (n₀ : ι) (h₀ : valid n₀ = true) :
    (∑ n, (if valid n then ((Real.exp (x n) * c : ℝ) : EReal) else 0) * v n)
      * Ideal.div 1 (∑ j, if valid j then ((Real.exp (x j) * c : ℝ) : EReal) else 0) = attn valid x v := by
  have hZ := weights_pos valid x n₀ h₀
  rw [weights_sum, Ideal.div_coe (by positivity), one_mul, mul_comm, mul_sum_of_nonneg _ _ (by positivity)]
  refine Finset.sum_congr rfl fun n _ => ?_
  rw [← mul_assoc]
  congr 1
  cases valid n
  · simp
  · simp only [if_true]
    rw [← EReal.coe_mul]
    congr 1
    field_simp

/-- The kernel's attention: unnormalised powers of two, the row sum's reciprocal multiplied in at the end. -/
theorem kernel_attn {ι : Type} [Fintype ι] (valid : ι → Bool) (x : ι → ℝ) (v s : ι → EReal) (n₀ : ι) (h₀ : valid n₀ = true)
    (hs : ∀ n, s n = if valid n then ((x n / Real.log 2 : ℝ) : EReal) else ⊥) :
    (∑ n, Ideal.exp2 (s n - Finset.univ.fold max ⊥ s) * v n) * Ideal.div 1 (∑ n, Ideal.exp2 (s n - Finset.univ.fold max ⊥ s))
      = attn valid x v := by
  obtain rfl : s = fun n => if valid n then ((x n / Real.log 2 : ℝ) : EReal) else ⊥ := funext hs
  obtain ⟨M, hM⟩ := fold_max_real valid (fun n => x n / Real.log 2) n₀ h₀
  rw [hM]
  have hl : Real.log 2 ≠ 0 := (Real.log_pos (by norm_num)).ne'
  have hp : ∀ n, Ideal.exp2 ((if valid n then ((x n / Real.log 2 : ℝ) : EReal) else ⊥) - (M : EReal))
      = if valid n then ((Real.exp (x n) * Real.exp (-(Real.log 2 * M)) : ℝ) : EReal) else 0 := by
    intro n
    cases valid n
    · simp
    · simp only [if_true]
      rw [← EReal.coe_sub, Ideal.exp2_coe]
      congr 1
      show (2 : ℝ) ^ (x n / Real.log 2 - M) = _
      rw [Real.rpow_def_of_pos (by norm_num), ← Real.exp_add]
      congr 1
      field_simp
      ring
  simp only [hp]
  exact attn_of_sums valid x v _ (Real.exp_pos _) n₀ h₀

/-- The reference's attention: the softmax of the masked logits, then the weighted sum. -/
theorem reference_attn {ι : Type} [Fintype ι] (valid : ι → Bool) (x : ι → ℝ) (v s : ι → EReal) (n₀ : ι) (h₀ : valid n₀ = true)
    (hs : ∀ n, s n = if valid n then ((x n : ℝ) : EReal) else ⊥) :
    (∑ n, Ideal.div (Ideal.exp (s n - Finset.univ.fold max ⊥ s)) (∑ j, Ideal.exp (s j - Finset.univ.fold max ⊥ s)) * v n)
      = attn valid x v := by
  obtain rfl : s = fun n => if valid n then ((x n : ℝ) : EReal) else ⊥ := funext hs
  obtain ⟨M, hM⟩ := fold_max_real valid x n₀ h₀
  rw [hM]
  have hp : ∀ n, Ideal.exp ((if valid n then ((x n : ℝ) : EReal) else ⊥) - (M : EReal))
      = if valid n then ((Real.exp (x n) * Real.exp (-M) : ℝ) : EReal) else 0 := by
    intro n
    cases valid n
    · simp
    · simp only [if_true]
      rw [← EReal.coe_sub, Ideal.exp_coe, ← Real.exp_add]
      rfl
  simp only [hp]
  exact attn_of_weights valid x v _ (Real.exp_pos _) n₀ h₀

end Cert.NA
-- ==== Proof.NA.Spec.lean ====
module

public import proofs.«01_k».proof.Proof.NA.Softmax
public import Idealize.ShloMosaic.Lib.Pointwise

@[expose] public section

noncomputable section

namespace Cert.NA

open Idealize.ShloMosaic

/-- Queries, keys or values: batch, position, channel (16 heads of 64). -/
abbrev Tokens : Type := (⟨3, ![4, 4096, 1024]⟩ : Shape).Idx → EReal

/-- The relative position bias: head, row offset, column offset. -/
abbrev Bias : Type := (⟨3, ![16, 15, 31]⟩ : Shape).Idx → EReal

/-- Whether key row `b` lies in the window of query row `a`. -/
def rowIn (a b : Fin 64) : Bool := decide (min (a.val - 4) 56 ≤ b.val) && decide (b.val < min (a.val - 4) 56 + 8)

/-- Whether key column `b` lies in the window of query column `a`. -/
def colIn (a b : Fin 64) : Bool := decide (min (a.val - 8) 48 ≤ b.val) && decide (b.val < min (a.val - 8) 48 + 16)

/-- The grid row of a position. -/
def rowOf (n : Fin 4096) : Fin 64 := ⟨n.val / 64, by omega⟩

/-- The grid column of a position. -/
def colOf (n : Fin 4096) : Fin 64 := ⟨n.val % 64, by omega⟩

/-- Whether position `m` lies in the neighbourhood of position `n`. -/
def inWindow (n m : Fin 4096) : Bool := rowIn (rowOf n) (rowOf m) && colIn (colOf n) (colOf m)

/-- The channel `d` of head `h`. -/
def chan (h : Fin 16) (d : Fin 64) : Fin 1024 := ⟨h.val * 64 + d.val, by omega⟩

/-- Row offsets as the bias numbers them. -/
def rowOff (a b : Fin 64) : Fin 15 := ⟨min (b.val + 7 - a.val) 14, by omega⟩

/-- Column offsets as the bias numbers them. -/
def colOff (a b : Fin 64) : Fin 31 := ⟨min (b.val + 15 - a.val) 30, by omega⟩

/-- The score of position `m` for the query at `n`. -/
def score (q k : Tokens) (rpb : Bias) (b : Fin 4) (h : Fin 16) (n m : Fin 4096) : ℝ :=
  (∑ d : Fin 64, (q (ix3 b n (chan h d))).toReal * (k (ix3 b m (chan h d))).toReal) * (1 / 8)
    + (rpb (ix3 h (rowOff (rowOf n) (rowOf m)) (colOff (colOf n) (colOf m)))).toReal

/-- Neighbourhood attention: one output channel. -/
def nbAttn (q k v : Tokens) (rpb : Bias) (b : Fin 4) (h : Fin 16) (n : Fin 4096) (d : Fin 64) : EReal :=
  attn (inWindow n) (score q k rpb b h n) (fun m => v (ix3 b m (chan h d)))

theorem ofBits_eighth : Ideal.ofBits .f32 0x3E000000#32 = ((1 / 8 : ℝ) : EReal) := by
  simp [Ideal.ofBits, Ideal.ieee, -EReal.coe_mul]; try norm_num

theorem ofBits_negInf : Ideal.ofBits .f32 0xFF800000#32 = (⊥ : EReal) := by
  simp [Ideal.ofBits, Ideal.ieee]

/-- Every entry is a real number. -/
def AllReal {S : Shape} (x : S.Idx → EReal) : Prop := ∀ i, x i = ((x i).toReal : EReal)

theorem rowIn_self : ∀ a : Fin 64, rowIn a a = true := by decide +kernel
theorem colIn_self : ∀ a : Fin 64, colIn a a = true := by decide +kernel

theorem inWindow_self (n : Fin 4096) : inWindow n n = true := by
  unfold inWindow; rw [rowIn_self, colIn_self]; rfl

end Cert.NA
-- ==== Proof.NA.ColWords.lean ====
module

public import proofs.«01_k».proof.Proof.NA.HostPrep
public import proofs.«01_k».proof.Proof.NA.Spec

@[expose] public section

set_option maxRecDepth 16384

noncomputable section

namespace Cert.NA

open Idealize.ShloMosaic Idealize.ShloMosaic.TcCoe Idealize.SL.Sem
open Cert.KernelIdeal Cert.KernelIdeal.Gen

theorem colMask_at : ∀ a b : Fin 64, colMask (ix2 a b) = BitVec.ofBool (colIn a b) := by decide +kernel

theorem colOffset2_at : ∀ (a : Fin 64) (j : Fin 128), colIn a ⟨j.val % 64, by omega⟩ = true →
    (colOffset2 (ix2 a j)).toInt.toNat = 31 * (j.val / 64) + (j.val % 64 + 15 - a.val) := by
  decide +kernel

theorem colMask2_at : ∀ (a : Fin 64) (j : Fin 128), colMask2 (ix2 a j) = BitVec.ofBool (colIn a ⟨j.val % 64, by omega⟩) := by
  decide +kernel

end Cert.NA
-- ==== Proof.NA.KernelRead.lean ====
module

public import proofs.«01_k».proof.Proof.NA.ColWords

@[expose] public section

set_option maxRecDepth 16384

noncomputable section

namespace Cert.NA

open Idealize.ShloMosaic Idealize.ShloMosaic.TcCoe Idealize.SL.Sem
open Cert.KernelIdeal Cert.KernelIdeal.Gen

theorem ofBits_two : Ideal.ofBits .f32 0x40000000#32 = ((2 : ℝ) : EReal) := by
  simp [Ideal.ofBits, Ideal.ieee, -EReal.coe_mul]; try norm_num

theorem ofBits_one : Ideal.ofBits .f32 0x3F800000#32 = (1 : EReal) := by
  simp [Ideal.ofBits, Ideal.ieee, -EReal.coe_mul]; try norm_num

theorem log2e_at (z : S_.Idx) : log2e (F := Ideal) z = ((1 / Real.log 2 : ℝ) : EReal) := by
  pointwise [log2e]
  have h : (Real.log 2 : ℝ) ≠ 0 := (Real.log_pos (by norm_num)).ne'
  rw [ofBits_two, Ideal.log_coe, if_neg (by norm_num), Ideal.div_coe h, one_mul]

theorem qkv_query (q k v : Vec Ideal S4x4096x1024 .f32) (b : Fin 4) (n : Fin 4096) (x : Fin 1024) :
    qkvOf q k v (ix3 b n ⟨x.val, by omega⟩) = q (ix3 b n x) * ((1 / 8 / Real.log 2 : ℝ) : EReal) := by
  pointwise [qkvOf]
  rw [log2e_at, ofBits_eighth, ← EReal.coe_mul]
  congr 2
  ring

theorem qkv_key (q k v : Vec Ideal S4x4096x1024 .f32) (b : Fin 4) (n : Fin 4096) (x : Fin 1024) :
    qkvOf q k v (ix3 b n ⟨1024 + x.val, by omega⟩) = k (ix3 b n x) := by
  pointwise [qkvOf]

theorem qkv_value (q k v : Vec Ideal S4x4096x1024 .f32) (b : Fin 4) (n : Fin 4096) (x : Fin 1024) :
    qkvOf q k v (ix3 b n ⟨2048 + x.val, by omega⟩) = v (ix3 b n x) := by
  pointwise [qkvOf]
  rw [dif_neg (by omega), dif_neg (by omega)]
  congr 2
  exact Fin.ext (by show 2048 + x.val - 1024 - 1024 = x.val; omega)

theorem gathered_read (rpb : Vec Ideal S16x15x31 .f32) (p : Fin 8) (e : Fin 2) (d : Fin 14) (a : Fin 64) (j : Fin 128)
    (h : colIn a ⟨j.val % 64, by omega⟩ = true) :
    biasGathered rpb (ix5 p e d a j)
      = rpb (ix3 ⟨p.val * 2 + e.val, by omega⟩ ⟨d.val + j.val / 64, by omega⟩
          ⟨min (j.val % 64 + 15 - a.val) 30, by omega⟩) * ((1 / Real.log 2 : ℝ) : EReal) := by
  have hc := h
  unfold colIn at hc
  simp only [Bool.and_eq_true, decide_eq_true_eq] at hc
  unfold biasGathered
  rw [gather_table]
  pointwise [biasRows, biasScaled]
  have ho := colOffset2_at a j h
  have ha := a.isLt
  have hj := j.isLt
  rw [log2e_at]
  split
  · next hlt =>
    congr 2
    rw [ho] at hlt
    congr 1 <;> refine Fin.ext ?_ <;> simp only [ho] <;> omega
  · next hlt =>
    congr 2
    rw [ho] at hlt
    congr 1 <;> refine Fin.ext ?_ <;> simp only [ho] <;> omega

theorem negInf' : Ideal.ofBits .f32 4286578688#32 = (⊥ : EReal) := by
  simp [Ideal.ofBits, Ideal.ieee]

/-- The kernel's bias table: inside the column window the scaled bias, outside minus infinity. -/
theorem bias_read (rpb : Vec Ideal S16x15x31 .f32) (p : Fin 8) (d : Fin 14) (R j : Fin 128) :
    biasTable rpb (ix4 p d R j)
      = if colIn ⟨R.val % 64, by omega⟩ ⟨j.val % 64, by omega⟩ = true then
          rpb (ix3 ⟨p.val * 2 + R.val / 64, by omega⟩ ⟨d.val + j.val / 64, by omega⟩
            ⟨min (j.val % 64 + 15 - R.val % 64) 30, by omega⟩) * ((1 / Real.log 2 : ℝ) : EReal)
        else ⊥ := by
  pointwise [biasTable]
  rw [colMask2_at, negInf']
  by_cases h : colIn ⟨R.val % 64, by omega⟩ ⟨j.val % 64, by omega⟩ = true
  · rw [if_pos h, gathered_read _ _ _ _ _ _ h, h]; rfl
  · rw [if_neg h, Bool.not_eq_true _ |>.mp h]; rfl

end Cert.NA
-- ==== Proof.NA.Tile.lean ====
module

public import proofs.«01_k».proof.Proof.Gen.KernelIdeal.Skeleton
public import Idealize.ShloMosaic.Lib.Pointwise

@[expose] public section

set_option maxRecDepth 16384

noncomputable section

namespace Cert.NA

open Idealize.ShloMosaic Idealize.ShloMosaic.TcCoe Idealize.SL.Sem
open Cert.KernelIdeal Cert.KernelIdeal.Gen

variable {F : FTy → Type} [FloatOps F]

/-- The probabilities (before normalising) of one grid row: two heads' rows stacked, against the 512 keys of
    the eight rows loaded. -/
def probs (q : Vec F S1x64x128 .bf16) (k : Vec F S1x512x128 .bf16) (b0 b1 b2 b3 : Vec F S1x1x128x128 .f32) :
    FVec F S128x512 .bf16 :=
  k0_pay43 (k0_pay27 k0_pay1 q k) (k0_pay42 b0) b1 b2 b3

/-- What one unrolled step stores for its grid row. -/
def tile (q : Vec F S1x64x128 .bf16) (k v : Vec F S1x512x128 .bf16) (b0 b1 b2 b3 : Vec F S1x1x128x128 .f32) :
    FVec F S1x64x128 .bf16 :=
  k0_pay4 (k0_pay28 v) (probs q k b0 b1 b2 b3)

/-- The word test "lane below 64", as a test of numbers. -/
theorem lane_lt : ∀ x : Fin 128, IntOp.cmpi .slt (BitVec.ofNat 32 x.val) 64#32 = BitVec.ofBool (decide (x.val < 64)) := by
  decide +kernel

theorem select_lane {α : Type} (x : Fin 128) (a b : α) :
    Scalar.select (IntOp.cmpi .slt (BitVec.ofNat 32 x.val) 64#32) a b = if x.val < 64 then a else b := by
  rw [lane_lt]
  by_cases h : x.val < 64 <;> simp [Scalar.select, h]

/-- The four bias tiles of a grid row, side by side: row `R` against key `j`. -/
def biasCat (b0 b1 b2 b3 : Vec Ideal S1x1x128x128 .f32) (R : Fin 128) (j : Fin 512) : EReal :=
  if h : j.val < 128 then b0 (ix4 0 0 R ⟨j.val, h⟩)
  else if h : j.val - 128 < 128 then b1 (ix4 0 0 R ⟨j.val - 128, h⟩)
  else if h : j.val - 128 - 128 < 128 then b2 (ix4 0 0 R ⟨j.val - 128 - 128, h⟩)
  else b3 (ix4 0 0 R ⟨j.val - 128 - 128 - 128, by omega⟩)

/-- The query row `R` of the stacked pair: the head's own 64 lanes, the other head's lanes zero. -/
def queryLane (q : Vec Ideal S1x64x128 .bf16) (R x : Fin 128) : EReal :=
  if h : R.val < 64 then (if x.val < 64 then q (ix3 0 ⟨R.val, h⟩ x) else 0)
  else (if x.val < 64 then 0 else q (ix3 0 ⟨R.val - 64, by omega⟩ x))

/-- The score of row `R` of the stacked pair against key `j`. -/
def tileScore (q : Vec Ideal S1x64x128 .bf16) (k : Vec Ideal S1x512x128 .bf16)
    (b0 b1 b2 b3 : Vec Ideal S1x1x128x128 .f32) (R : Fin 128) (j : Fin 512) : EReal :=
  (∑ x : Fin 128, queryLane q R x * k (ix3 0 j x)) + biasCat b0 b1 b2 b3 R j

theorem negInf : Ideal.ofBits .f32 4286578688#32 = (⊥ : EReal) := by
  simp [Ideal.ofBits, Ideal.ieee]

theorem probs_at (q : Vec Ideal S1x64x128 .bf16) (k : Vec Ideal S1x512x128 .bf16)
    (b0 b1 b2 b3 : Vec Ideal S1x1x128x128 .f32) (r : Fin 128) (j : Fin 512) :
    probs q k b0 b1 b2 b3 (ix2 r j)
      = Ideal.exp2 (tileScore q k b0 b1 b2 b3 r j
          - Finset.fold max ⊥ (fun x => tileScore q k b0 b1 b2 b3 r x) Finset.univ) := by
  pointwise [probs, k0_pay43, k0_pay27, k0_pay1, k0_pay42]
  simp only [select_lane, negInf]
  rfl

/-- The lane's head of the pair: lane `l` belongs to stacked row `r` or `64 + r`. -/
def stackRow (r : Fin 64) (l : Fin 128) : Fin 128 := if l.val < 64 then ⟨r.val, by omega⟩ else ⟨64 + r.val, by omega⟩

theorem tile_at (q : Vec Ideal S1x64x128 .bf16) (k v : Vec Ideal S1x512x128 .bf16)
    (b0 b1 b2 b3 : Vec Ideal S1x1x128x128 .f32) (r : Fin 64) (l : Fin 128) :
    tile q k v b0 b1 b2 b3 (ix3 0 r l)
      = (∑ x, probs q k b0 b1 b2 b3 (ix2 (stackRow r l) x) * v (ix3 0 x l))
          * Ideal.div 1 (∑ x, probs q k b0 b1 b2 b3 (ix2 (stackRow r l) x)) := by
  pointwise [tile, k0_pay4, k0_pay28, k0_pay2]
  rw [select_lane]
  unfold stackRow
  split <;> rfl

end Cert.NA
-- ==== Proof.NA.Pieces.lean ====
module

public import proofs.«01_k».proof.Proof.Gen.KernelIdeal.Value
public import proofs.«01_k».proof.Proof.NA.Tile

@[expose] public section

set_option maxRecDepth 16384

noncomputable section

namespace Cert.NA

open Idealize.ShloMosaic Idealize.ShloMosaic.TcCoe Idealize.SL.Sem
open Cert.KernelIdeal Cert.KernelIdeal.Gen

variable {F : FTy → Type} [FloatOps F]

/-- The first of the eight key rows a grid row attends to. -/
def rowStart (i : Fin 64) : ℕ := min (i.val - 4) 56

/-- The grid row of the unrolled step `u` of trip `k`. -/
def gridRow (k : Fin k0_t1_loop.trips) (u : Fin 8) : Fin 64 :=
  ⟨8 * k.val + u.val, by have := Nat.lt_of_lt_of_le k.isLt k0_t1_abs.2.1; omega⟩

theorem off1_eq : ∀ (k : Fin k0_t1_loop.trips) (u : Fin 8),
    k0_off1 k (BitVec.ofNat 32 u.val) = ![0, 64 * (gridRow k u).val, 0] := by
  decide +kernel

theorem off2_eq : ∀ (k : Fin k0_t1_loop.trips) (u : Fin 8),
    k0_off2 k (BitVec.ofNat 32 u.val) = ![0, 64 * rowStart (gridRow k u), 0] := by
  decide +kernel

theorem off3_eq : ∀ (k : Fin k0_t1_loop.trips) (u : Fin 8) (g : Fin 4),
    k0_off3 k (BitVec.ofNat 32 u.val) (BitVec.ofNat 32 (2 * g.val))
      = ![0, rowStart (gridRow k u) + 7 + 2 * g.val - (gridRow k u).val, 0, 0] := by
  decide +kernel

theorem rowStart_le : ∀ i : Fin 64, rowStart i ≤ 56 := by decide +kernel
theorem rowStart_bias : ∀ (i : Fin 64) (g : Fin 4), rowStart i + 7 + 2 * g.val - i.val < 14 := by decide +kernel

/-- Grid row `i` of a block. -/
def rowsAt {e : EltTy} (Q : Vec F S1x4096x128 e) (i : Fin 64) : Vec F S1x64x128 e :=
  fun z => Q (ix3 0 ⟨64 * i.val + (z 1).val, by have := i.isLt; have : (z 1).val < 64 := (z 1).isLt; omega⟩ (z 2))

/-- The eight key rows of grid row `i` of a block. -/
def keysAt {e : EltTy} (K : Vec F S1x4096x128 e) (i : Fin 64) : Vec F S1x512x128 e :=
  fun z => K (ix3 0 ⟨64 * rowStart i + (z 1).val, by
    have := rowStart_le i; have : (z 1).val < 512 := (z 1).isLt; omega⟩ (z 2))

/-- The bias tile of grid row `i` for the key rows `2 g` and `2 g + 1`. -/
def biasAt {e : EltTy} (B : Vec F S1x14x128x128 e) (i : Fin 64) (g : Fin 4) : Vec F S1x1x128x128 e :=
  fun z => B (ix4 0 ⟨rowStart i + 7 + 2 * g.val - i.val, rowStart_bias i g⟩ (z 2) (z 3))

/-- What the kernel leaves in an output block, from its input blocks. -/
def blockOut (Q K V : Vec F S1x4096x128 .bf16) (B : Vec F S1x14x128x128 .f32) : Vec F S1x4096x128 .bf16 := fun y =>
  let i : Fin 64 := ⟨(y 1).val / 64, by have : (y 1).val < 4096 := (y 1).isLt; omega⟩
  tile (rowsAt Q i) (keysAt K i) (keysAt V i) (biasAt B i 0) (biasAt B i 1) (biasAt B i 2) (biasAt B i 3)
    (ix3 0 ⟨(y 1).val % 64, by omega⟩ (y 2))

/-- Each of the eight pieces a trip writes is one grid row: `tile` over the loads of that row. -/
theorem trip_pieces (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x14x128x128 .f32) (harg5 : arg5.IsWhole) (arg6 : Memref sig .tc .vmem S1x4096x128 .bf16) (harg6 : arg6.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) :
  ∀ p ∈ tripL_k0_t1 (F := F) 𝒱 c bd i arg2 harg2 arg3 harg3 arg4 harg4 arg5 harg5 arg6 harg6 X_arg2 X_arg3 X_arg4 X_arg5 k,
    ∃ (u : Fin 8) (h1 : _) (h2 : _) (h3 : _) (h4 : _) (h5 : _) (h6 : _) (h7 : _),
      p = ⟨Rect.unit (s := S1x4096x128) (k0_off1 k (BitVec.ofNat 32 u.val)) ![1, 64, 128] h1,
        tile (View.readAt (Elt F) arg2.view (Rect.unit (s := S1x4096x128) (k0_off1 k (BitVec.ofNat 32 u.val)) S1x64x128.size h1).toLoadRect X_arg2)
          (View.readAt (Elt F) arg3.view (Rect.unit (s := S1x4096x128) (k0_off2 k (BitVec.ofNat 32 u.val)) S1x512x128.size h2).toLoadRect X_arg3)
          (View.readAt (Elt F) arg4.view (Rect.unit (s := S1x4096x128) (k0_off2 k (BitVec.ofNat 32 u.val)) S1x512x128.size h3).toLoadRect X_arg4)
          (View.readAt (Elt F) arg5.view (Rect.unit (s := S1x14x128x128) (k0_off3 k (BitVec.ofNat 32 u.val) 0#32) S1x1x128x128.size h4).toLoadRect X_arg5)
          (View.readAt (Elt F) arg5.view (Rect.unit (s := S1x14x128x128) (k0_off3 k (BitVec.ofNat 32 u.val) 2#32) S1x1x128x128.size h5).toLoadRect X_arg5)
          (View.readAt (Elt F) arg5.view (Rect.unit (s := S1x14x128x128) (k0_off3 k (BitVec.ofNat 32 u.val) 4#32) S1x1x128x128.size h6).toLoadRect X_arg5)
          (View.readAt (Elt F) arg5.view (Rect.unit (s := S1x14x128x128) (k0_off3 k (BitVec.ofNat 32 u.val) 6#32) S1x1x128x128.size h7).toLoadRect X_arg5)⟩ := by
  unfold tripL_k0_t1 trip_k0_t1
  dsimp only
  sl_unfold_run_names
  intro p hp
  simp only [List.mem_cons, List.not_mem_nil, or_false] at hp
  rcases hp with h | h | h | h | h | h | h | h
  · exact ⟨7, _, _, _, _, _, _, _, h⟩
  · exact ⟨6, _, _, _, _, _, _, _, h⟩
  · exact ⟨5, _, _, _, _, _, _, _, h⟩
  · exact ⟨4, _, _, _, _, _, _, _, h⟩
  · exact ⟨3, _, _, _, _, _, _, _, h⟩
  · exact ⟨2, _, _, _, _, _, _, _, h⟩
  · exact ⟨1, _, _, _, _, _, _, _, h⟩
  · exact ⟨0, _, _, _, _, _, _, _, h⟩

section Reads
variable (arg : Memref sig .tc .vmem S1x4096x128 .bf16) (harg : arg.IsWhole) (x : Vec F S1x4096x128 .bf16)
  (k : Fin k0_t1_loop.trips) (u : Fin 8)

theorem read_rows (h : _) :
    View.readAt (Elt F) arg.view (Rect.unit (s := S1x4096x128) (k0_off1 k (BitVec.ofNat 32 u.val)) S1x64x128.size h).toLoadRect (harg.unread x)
      = rowsAt x (gridRow k u) := by
  rw [View.readAt_eq_ld, Memref.IsWhole.read_unread]
  funext z
  show x _ = x _
  congr 1
  funext a
  refine Fin.ext ?_
  show k0_off1 k (BitVec.ofNat 32 u.val) a + 1 * (z a).val = _
  refine (congrArg (· + 1 * (z a).val) (congrFun (off1_eq k u) a)).trans ?_
  match a with
  | ⟨0, _⟩ => have : (z 0).val < 1 := (z 0).isLt; show 0 + 1 * (z 0).val = 0; omega
  | ⟨1, _⟩ => show 64 * (gridRow k u).val + 1 * (z 1).val = _; rw [Nat.one_mul]; rfl
  | ⟨2, _⟩ => show 0 + 1 * (z 2).val = (z 2).val; omega

theorem read_keys (h : _) :
    View.readAt (Elt F) arg.view (Rect.unit (s := S1x4096x128) (k0_off2 k (BitVec.ofNat 32 u.val)) S1x512x128.size h).toLoadRect (harg.unread x)
      = keysAt x (gridRow k u) := by
  rw [View.readAt_eq_ld, Memref.IsWhole.read_unread]
  funext z
  show x _ = x _
  congr 1
  funext a
  refine Fin.ext ?_
  show k0_off2 k (BitVec.ofNat 32 u.val) a + 1 * (z a).val = _
  refine (congrArg (· + 1 * (z a).val) (congrFun (off2_eq k u) a)).trans ?_
  match a with
  | ⟨0, _⟩ => have : (z 0).val < 1 := (z 0).isLt; show 0 + 1 * (z 0).val = 0; omega
  | ⟨1, _⟩ => show 64 * rowStart (gridRow k u) + 1 * (z 1).val = _; rw [Nat.one_mul]; rfl
  | ⟨2, _⟩ => show 0 + 1 * (z 2).val = (z 2).val; omega

end Reads

theorem read_bias (arg : Memref sig .tc .vmem S1x14x128x128 .f32) (harg : arg.IsWhole) (x : Vec F S1x14x128x128 .f32)
    (k : Fin k0_t1_loop.trips) (u : Fin 8) (g : Fin 4) (h : _) :
    View.readAt (Elt F) arg.view (Rect.unit (s := S1x14x128x128) (k0_off3 k (BitVec.ofNat 32 u.val) (BitVec.ofNat 32 (2 * g.val))) S1x1x128x128.size h).toLoadRect (harg.unread x)
      = biasAt x (gridRow k u) g := by
  rw [View.readAt_eq_ld, Memref.IsWhole.read_unread]
  funext z
  show x _ = x _
  congr 1
  funext a
  refine Fin.ext ?_
  show k0_off3 k (BitVec.ofNat 32 u.val) (BitVec.ofNat 32 (2 * g.val)) a + 1 * (z a).val = _
  refine (congrArg (· + 1 * (z a).val) (congrFun (off3_eq k u g) a)).trans ?_
  match a with
  | ⟨0, _⟩ => have : (z 0).val < 1 := (z 0).isLt; show 0 + 1 * (z 0).val = 0; omega
  | ⟨1, _⟩ =>
    have : (z 1).val < 1 := (z 1).isLt
    show rowStart (gridRow k u) + 7 + 2 * g.val - (gridRow k u).val + 1 * (z 1).val = rowStart (gridRow k u) + 7 + 2 * g.val - (gridRow k u).val
    omega
  | ⟨2, _⟩ => show 0 + 1 * (z 2).val = (z 2).val; omega
  | ⟨3, _⟩ => show 0 + 1 * (z 3).val = (z 3).val; omega

/-- The piece of grid row `i` is `blockOut` read at that row. -/
theorem blockOut_row (Q K V : Vec F S1x4096x128 .bf16) (B : Vec F S1x14x128x128 .f32) (k : Fin k0_t1_loop.trips) (u : Fin 8)
    (h : _) (x : S1x64x128.Idx) :
    tile (rowsAt Q (gridRow k u)) (keysAt K (gridRow k u)) (keysAt V (gridRow k u)) (biasAt B (gridRow k u) 0)
        (biasAt B (gridRow k u) 1) (biasAt B (gridRow k u) 2) (biasAt B (gridRow k u) 3) x
      = blockOut Q K V B ((Rect.unit (s := S1x4096x128) (k0_off1 k (BitVec.ofNat 32 u.val)) ![1, 64, 128] h).emb x) := by
  have h1 : (((Rect.unit (s := S1x4096x128) (k0_off1 k (BitVec.ofNat 32 u.val)) ![1, 64, 128] h).emb x) 1).val
      = 64 * (gridRow k u).val + (x 1).val := by
    show k0_off1 k (BitVec.ofNat 32 u.val) 1 + 1 * (x 1).val = _
    exact (congrArg (· + 1 * (x 1).val) (congrFun (off1_eq k u) 1)).trans (by rw [Nat.one_mul]; rfl)
  have h2 : (((Rect.unit (s := S1x4096x128) (k0_off1 k (BitVec.ofNat 32 u.val)) ![1, 64, 128] h).emb x) 2).val = (x 2).val := by
    show k0_off1 k (BitVec.ofNat 32 u.val) 2 + 1 * (x 2).val = _
    exact (congrArg (· + 1 * (x 2).val) (congrFun (off1_eq k u) 2)).trans (by rw [Nat.one_mul]; exact Nat.zero_add _)
  generalize (Rect.unit (s := S1x4096x128) (k0_off1 k (BitVec.ofNat 32 u.val)) ![1, 64, 128] h).emb x = y at h1 h2
  have hx : (x 1).val < 64 := (x 1).isLt
  unfold blockOut
  have hi : (⟨(y 1).val / 64, by have : (y 1).val < 4096 := (y 1).isLt; omega⟩ : Fin 64) = gridRow k u := by
    refine Fin.ext ?_; show (y 1).val / 64 = _; omega
  simp only [hi]
  congr 1
  funext a
  refine Fin.ext ?_
  match a with
  | ⟨0, _⟩ => have : (x 0).val < 1 := (x 0).isLt; show (x 0).val = 0; omega
  | ⟨1, _⟩ => show (x 1).val = (y 1).val % 64; omega
  | ⟨2, _⟩ => show (x 2).val = (y 2).val; omega

section Block
variable (c : Dev nD) (i : grid0.Coords) (arg2 : Memref sig .tc .vmem S1x4096x128 .bf16) (harg2 : arg2.IsWhole)
  (arg3 : Memref sig .tc .vmem S1x4096x128 .bf16) (harg3 : arg3.IsWhole) (arg4 : Memref sig .tc .vmem S1x4096x128 .bf16)
  (harg4 : arg4.IsWhole) (arg5 : Memref sig .tc .vmem S1x14x128x128 .f32) (harg5 : arg5.IsWhole)
  (arg6 : Memref sig .tc .vmem S1x4096x128 .bf16) (harg6 : arg6.IsWhole)
  (x0 x1 x2 : Vec F S1x4096x128 .bf16) (x3 : Vec F S1x14x128x128 .f32)

theorem trip_value (𝒱 : Variants) (bd : Option 𝒱.V) (k : Fin k0_t1_loop.trips) :
    ∀ p ∈ tripL_k0_t1 (F := F) 𝒱 c bd i arg2 harg2 arg3 harg3 arg4 harg4 arg5 harg5 arg6 harg6
        (harg2.unread x0) (harg3.unread x1) (harg4.unread x2) (harg5.unread x3) k,
      ∀ x : p.1.shape.Idx, p.2 x = blockOut x0 x1 x2 x3 (p.1.emb x) := by
  intro p hp
  obtain ⟨u, h1, h2, h3, h4, h5, h6, h7, rfl⟩ := trip_pieces 𝒱 c bd i arg2 harg2 arg3 harg3 arg4 harg4 arg5 harg5 arg6 harg6 _ _ _ _ k p hp
  intro x
  rw [← blockOut_row x0 x1 x2 x3 k u h1 x]
  show tile _ _ _ _ _ _ _ x = _
  rw [read_rows, read_keys, read_keys]
  have e0 : View.readAt (Elt F) arg5.view (Rect.unit (s := S1x14x128x128) (k0_off3 k (BitVec.ofNat 32 u.val) 0#32) S1x1x128x128.size h4).toLoadRect (harg5.unread x3)
      = biasAt x3 (gridRow k u) 0 := read_bias arg5 harg5 x3 k u 0 h4
  have e1 : View.readAt (Elt F) arg5.view (Rect.unit (s := S1x14x128x128) (k0_off3 k (BitVec.ofNat 32 u.val) 2#32) S1x1x128x128.size h5).toLoadRect (harg5.unread x3)
      = biasAt x3 (gridRow k u) 1 := read_bias arg5 harg5 x3 k u 1 h5
  have e2 : View.readAt (Elt F) arg5.view (Rect.unit (s := S1x14x128x128) (k0_off3 k (BitVec.ofNat 32 u.val) 4#32) S1x1x128x128.size h6).toLoadRect (harg5.unread x3)
      = biasAt x3 (gridRow k u) 2 := read_bias arg5 harg5 x3 k u 2 h6
  have e3 : View.readAt (Elt F) arg5.view (Rect.unit (s := S1x14x128x128) (k0_off3 k (BitVec.ofNat 32 u.val) 6#32) S1x1x128x128.size h7).toLoadRect (harg5.unread x3)
      = biasAt x3 (gridRow k u) 3 := read_bias arg5 harg5 x3 k u 3 h7
  rw [e0, e1, e2, e3]

theorem trips_value (𝒱 : Variants) (bd : Option 𝒱.V) : ∀ n, n ≤ k0_t1_loop.trips →
    ∀ p ∈ pb_k0_t1 (F := F) 𝒱 c bd i arg2 harg2 arg3 harg3 arg4 harg4 arg5 harg5 arg6 harg6
        (harg2.unread x0) (harg3.unread x1) (harg4.unread x2) (harg5.unread x3) n,
      ∀ x : p.1.shape.Idx, p.2 x = blockOut x0 x1 x2 x3 (p.1.emb x)
  | 0, _, p, hp => by rw [pb_k0_t1.eq_1] at hp; exact absurd hp List.not_mem_nil
  | n + 1, hn, p, hp => by
    rw [pb_k0_t1_succ 𝒱 c bd i arg2 harg2 arg3 harg3 arg4 harg4 arg5 harg5 arg6 harg6 _ _ _ _ ⟨n, hn⟩] at hp
    rcases List.mem_append.mp hp with hp | hp
    · exact trip_value c i arg2 harg2 arg3 harg3 arg4 harg4 arg5 harg5 arg6 harg6 x0 x1 x2 x3 𝒱 bd ⟨n, hn⟩ p hp
    · exact trips_value 𝒱 bd n (Nat.le_of_succ_le hn) p hp

theorem out_eq : out0_A_4 c i arg2 harg2 arg3 harg3 arg4 harg4 arg5 harg5 arg6 harg6 x0 x1 x2 x3 = blockOut x0 x1 x2 x3 := by
  funext y
  unfold out0_A_4
  rw [View.read_writes_junk_eq_canon]
  refine View.canon_apply_of_pieces _ _ ?_ y (cover0_A_4 c i arg2 harg2 arg3 harg3 arg4 harg4 arg5 harg5 arg6 harg6 x0 x1 x2 x3 y)
  unfold kernelRun0_A
  dsimp only
  sl_unfold_run_names
  exact trips_value c i arg2 harg2 arg3 harg3 arg4 harg4 arg5 harg5 arg6 harg6 x0 x1 x2 x3 _ _ _ le_rfl

end Block

end Cert.NA
-- ==== Proof.NA.KernelTile.lean ====
module

public import proofs.«01_k».proof.Proof.NA.KernelRead
public import proofs.«01_k».proof.Proof.NA.Pieces

@[expose] public section

set_option maxRecDepth 16384

noncomputable section

namespace Cert.NA

open Idealize.ShloMosaic Idealize.ShloMosaic.TcCoe Idealize.SL.Sem
open Cert.KernelIdeal Cert.KernelIdeal.Gen

/-- The position of key `j` of the eight key rows of grid row `i`. -/
def keyPos (i : Fin 64) (j : Fin 512) : Fin 4096 := ⟨64 * rowStart i + j.val, by have := rowStart_le i; omega⟩

theorem keyPos_injective (i : Fin 64) : Function.Injective (keyPos i) := fun a b h => by
  have := congrArg Fin.val h
  simp only [keyPos] at this
  exact Fin.ext (by omega)

/-- The lane of channel `d` in the half of the block that lane `l` lies in. -/
def halfLane (l : Fin 128) (d : Fin 64) : Fin 128 := ⟨64 * (l.val / 64) + d.val, by omega⟩

/-- The head of lane `l` of head pair `p`. -/
def headOf (p : Fin 8) (l : Fin 128) : Fin 16 := ⟨p.val * 2 + l.val / 64, by omega⟩

/-- The channel of lane `l` of head pair `p`. -/
def chanOf (p : Fin 8) (l : Fin 128) : Fin 1024 := ⟨128 * p.val + l.val, by omega⟩

theorem chanOf_half (p : Fin 8) (l : Fin 128) (d : Fin 64) : chanOf p (halfLane l d) = chan (headOf p l) d :=
  Fin.ext (by simp only [chanOf, halfLane, chan, headOf]; omega)

theorem chanOf_eq (p : Fin 8) (l : Fin 128) : chanOf p l = chan (headOf p l) ⟨l.val % 64, by omega⟩ :=
  Fin.ext (by simp only [chanOf, chan, headOf]; omega)

theorem queryLane_own (q : Vec Ideal S1x64x128 .bf16) (r : Fin 64) (l : Fin 128) (d : Fin 64) :
    queryLane q (stackRow r l) (halfLane l d) = q (ix3 0 r (halfLane l d)) := by
  have hd := d.isLt
  have hr := r.isLt
  unfold stackRow
  by_cases h : l.val < 64
  · rw [if_pos h]
    unfold queryLane
    rw [dif_pos hr, if_pos (show (halfLane l d).val < 64 by simp only [halfLane]; omega)]
  · rw [if_neg h]
    unfold queryLane
    rw [dif_neg (show ¬ (64 + r.val < 64) by omega), if_neg (show ¬ (halfLane l d).val < 64 by simp only [halfLane]; omega)]
    congr 2
    exact Fin.ext (by show 64 + r.val - 64 = r.val; omega)

theorem queryLane_other (q : Vec Ideal S1x64x128 .bf16) (r : Fin 64) (l x : Fin 128) (hx : x.val / 64 ≠ l.val / 64) :
    queryLane q (stackRow r l) x = 0 := by
  have hr := r.isLt
  unfold stackRow
  by_cases h : l.val < 64
  · rw [if_pos h]
    unfold queryLane
    rw [dif_pos hr, if_neg (by omega)]
  · rw [if_neg h]
    unfold queryLane
    rw [dif_neg (show ¬ (64 + r.val < 64) by omega), if_pos (by omega)]

theorem sum_lanes (q : Vec Ideal S1x64x128 .bf16) (r : Fin 64) (l : Fin 128) (f : Fin 128 → EReal) :
    (∑ x : Fin 128, queryLane q (stackRow r l) x * f x) = ∑ d : Fin 64, q (ix3 0 r (halfLane l d)) * f (halfLane l d) := by
  refine (Fintype.sum_of_injective (halfLane l) (fun a b h => ?_) _ _ (fun x hx => ?_) fun d => ?_).symm
  · have := congrArg Fin.val h
    simp only [halfLane] at this
    exact Fin.ext (by omega)
  · rw [queryLane_other, zero_mul]
    intro h
    exact hx ⟨⟨x.val % 64, by omega⟩, Fin.ext (by simp only [halfLane]; omega)⟩
  · rw [queryLane_own]

theorem biasCat_at (B : Vec Ideal S1x14x128x128 .f32) (i : Fin 64) (R : Fin 128) (j : Fin 512) :
    biasCat (biasAt B i 0) (biasAt B i 1) (biasAt B i 2) (biasAt B i 3) R j
      = B (ix4 0 ⟨rowStart i + 7 + 2 * (j.val / 128) - i.val, rowStart_bias i ⟨j.val / 128, by omega⟩⟩ R ⟨j.val % 128, by omega⟩) := by
  have hj := j.isLt
  unfold biasCat
  split
  · unfold biasAt
    congr 2 <;> exact Fin.ext (by simp; omega)
  · split
    · unfold biasAt
      congr 2 <;> exact Fin.ext (by simp; omega)
    · split
      · unfold biasAt
        congr 2 <;> exact Fin.ext (by simp; omega)
      · unfold biasAt
        congr 2 <;> exact Fin.ext (by simp; omega)

section

variable (q k v : Tokens) (rpb : Bias) (hq : AllReal q) (hk : AllReal k) (hr : AllReal rpb)
  (Q K V : Vec Ideal S1x4096x128 .bf16) (B : Vec Ideal S1x14x128x128 .f32) (b : Fin 4) (p : Fin 8)
  (hQ : ∀ n l, Q (ix3 0 n l) = q (ix3 b n (chanOf p l)) * ((1 / 8 / Real.log 2 : ℝ) : EReal))
  (hK : ∀ n l, K (ix3 0 n l) = k (ix3 b n (chanOf p l)))
  (hV : ∀ n l, V (ix3 0 n l) = v (ix3 b n (chanOf p l)))
  (hB : ∀ d R j, B (ix4 0 d R j) = biasTable rpb (ix4 p d R j))

include hq hk hr hQ hK hB in
theorem score_at (n : Fin 4096) (l : Fin 128) (j : Fin 512) :
    tileScore (rowsAt Q (rowOf n)) (keysAt K (rowOf n)) (biasAt B (rowOf n) 0) (biasAt B (rowOf n) 1) (biasAt B (rowOf n) 2)
        (biasAt B (rowOf n) 3) (stackRow (colOf n) l) j
      = if inWindow n (keyPos (rowOf n) j) then
          ((score q k rpb b (headOf p l) n (keyPos (rowOf n) j) / Real.log 2 : ℝ) : EReal)
        else ⊥ := by
  have hj := j.isLt
  have hn := n.isLt
  have hl := l.isLt
  have hrs : rowStart (rowOf n) = min (n.val / 64 - 4) 56 := rfl
  have hrow : rowIn (rowOf n) (rowOf (keyPos (rowOf n) j)) = true := by
    unfold rowIn
    rw [Bool.and_eq_true, decide_eq_true_eq, decide_eq_true_eq]
    change min (n.val / 64 - 4) 56 ≤ (64 * rowStart (rowOf n) + j.val) / 64
      ∧ (64 * rowStart (rowOf n) + j.val) / 64 < min (n.val / 64 - 4) 56 + 8
    rw [hrs]
    omega
  have hR : (stackRow (colOf n) l).val % 64 = n.val % 64 ∧ (stackRow (colOf n) l).val / 64 = l.val / 64 := by
    unfold stackRow colOf
    split <;> constructor <;> simp <;> omega
  unfold tileScore
  rw [sum_lanes, biasCat_at, hB, bias_read]
  generalize stackRow (colOf n) l = R at hR ⊢
  have hcol : colIn ⟨R.val % 64, by omega⟩ ⟨(j.val % 128) % 64, by omega⟩
      = inWindow n (keyPos (rowOf n) j) := by
    unfold inWindow
    rw [hrow, Bool.true_and]
    congr 1 <;> exact Fin.ext (by simp only [colOf, keyPos]; omega)
  rw [show colIn ⟨R.val % 64, by omega⟩ ⟨(⟨j.val % 128, by omega⟩ : Fin 128).val % 64, by omega⟩ = _ from hcol]
  by_cases hw : inWindow n (keyPos (rowOf n) j) = true
  · rw [if_pos hw, if_pos hw]
    have hcol' := hcol.trans hw
    unfold colIn at hcol'
    simp only [Bool.and_eq_true, decide_eq_true_eq] at hcol'
    have hbias : rpb (ix3 ⟨p.val * 2 + R.val / 64, by omega⟩
        ⟨rowStart (rowOf n) + 7 + 2 * (j.val / 128) - (rowOf n).val + j.val % 128 / 64, by
          have := rowStart_bias (rowOf n) ⟨j.val / 128, by omega⟩
          simp only at this
          omega⟩
        ⟨min (j.val % 128 % 64 + 15 - R.val % 64) 30, by omega⟩)
        = rpb (ix3 (headOf p l) (rowOff (rowOf n) (rowOf (keyPos (rowOf n) j))) (colOff (colOf n) (colOf (keyPos (rowOf n) j)))) := by
      congr 2
      · exact Fin.ext (by simp only [headOf]; omega)
      · exact Fin.ext (by simp only [rowOff, rowOf, keyPos] at *; omega)
      · exact Fin.ext (by simp only [colOff, colOf, keyPos] at *; omega)
    rw [show rpb (ix3 _ _ _) = _ from hbias]
    have hs : ∀ d : Fin 64, rowsAt Q (rowOf n) (ix3 0 (colOf n) (halfLane l d)) * keysAt K (rowOf n) (ix3 0 j (halfLane l d))
        = (((q (ix3 b n (chan (headOf p l) d))).toReal * (1 / 8 / Real.log 2)
            * (k (ix3 b (keyPos (rowOf n) j) (chan (headOf p l) d))).toReal : ℝ) : EReal) := by
      intro d
      have e1 : rowsAt Q (rowOf n) (ix3 0 (colOf n) (halfLane l d)) = Q (ix3 0 n (halfLane l d)) := by
        unfold rowsAt
        congr 2
        exact Fin.ext (by show 64 * (n.val / 64) + n.val % 64 = n.val; omega)
      have e2 : keysAt K (rowOf n) (ix3 0 j (halfLane l d)) = K (ix3 0 (keyPos (rowOf n) j) (halfLane l d)) := rfl
      rw [e1, e2, hQ, hK, chanOf_half, EReal.coe_mul, EReal.coe_mul, ← hq, ← hk]
    rw [Finset.sum_congr rfl fun d _ => hs d, sum_coe, hr (ix3 _ _ _), ← EReal.coe_mul, ← EReal.coe_add]
    congr 1
    unfold score
    have hsum : (∑ d : Fin 64, (q (ix3 b n (chan (headOf p l) d))).toReal * (1 / 8 / Real.log 2)
          * (k (ix3 b (keyPos (rowOf n) j) (chan (headOf p l) d))).toReal)
        = (1 / 8 / Real.log 2) * ∑ d : Fin 64, (q (ix3 b n (chan (headOf p l) d))).toReal
          * (k (ix3 b (keyPos (rowOf n) j) (chan (headOf p l) d))).toReal := by
      rw [Finset.mul_sum]
      exact Finset.sum_congr rfl fun d _ => by ring
    rw [hsum]
    ring
  · rw [if_neg hw, if_neg hw]
    exact EReal.add_bot _

include hq hk hr hQ hK hV hB in
theorem block_at (n : Fin 4096) (l : Fin 128) :
    blockOut Q K V B (ix3 0 n l) = nbAttn q k v rpb b (headOf p l) n ⟨l.val % 64, by omega⟩ := by
  have hn := n.isLt
  have e : blockOut Q K V B (ix3 0 n l)
      = tile (rowsAt Q (rowOf n)) (keysAt K (rowOf n)) (keysAt V (rowOf n)) (biasAt B (rowOf n) 0) (biasAt B (rowOf n) 1)
          (biasAt B (rowOf n) 2) (biasAt B (rowOf n) 3) (ix3 0 (colOf n) l) := rfl
  rw [e, tile_at]
  simp only [probs_at]
  have hval : ∀ j : Fin 512, keysAt V (rowOf n) (ix3 0 j l)
      = v (ix3 b (keyPos (rowOf n) j) (chan (headOf p l) ⟨l.val % 64, by omega⟩)) := fun j => by
    rw [← chanOf_eq]
    exact hV (keyPos (rowOf n) j) l
  simp only [hval]
  have hown : ∀ m, inWindow n m = true → ∃ j, keyPos (rowOf n) j = m := fun m hm => by
    unfold inWindow rowIn at hm
    simp only [Bool.and_eq_true, decide_eq_true_eq] at hm
    have hrs : rowStart (rowOf n) = min (n.val / 64 - 4) 56 := rfl
    have hm' := m.isLt
    obtain ⟨⟨h1, h2⟩, -⟩ := hm
    simp only [rowOf] at h1 h2
    exact ⟨⟨m.val - 64 * rowStart (rowOf n), by omega⟩, Fin.ext (by simp only [keyPos]; omega)⟩
  obtain ⟨j₀, hj₀⟩ := hown n (inWindow_self n)
  rw [kernel_attn (fun j => inWindow n (keyPos (rowOf n) j)) (fun j => score q k rpb b (headOf p l) n (keyPos (rowOf n) j))
    (fun j => v (ix3 b (keyPos (rowOf n) j) (chan (headOf p l) ⟨l.val % 64, by omega⟩)))
    (fun j => tileScore (rowsAt Q (rowOf n)) (keysAt K (rowOf n)) (biasAt B (rowOf n) 0) (biasAt B (rowOf n) 1)
      (biasAt B (rowOf n) 2) (biasAt B (rowOf n) 3) (stackRow (colOf n) l) j) j₀
    (by show inWindow n (keyPos (rowOf n) j₀) = true; rw [hj₀]; exact inWindow_self n)
    (score_at q k rpb hq hk hr Q K B b p hQ hK hB n l)]
  exact attn_of_injective (keyPos (rowOf n)) (keyPos_injective (rowOf n)) (inWindow n) (score q k rpb b (headOf p l) n)
    (fun m => v (ix3 b m (chan (headOf p l) ⟨l.val % 64, by omega⟩))) hown

end

end Cert.NA
-- ==== Proof.NA.KernelOut.lean ====
module

public import proofs.«01_k».proof.Proof.NA.KernelTile
public import Idealize.ShloMosaic.Lib.Pipeline.ValueKit

@[expose] public section

set_option maxRecDepth 16384

noncomputable section

namespace Cert.NA

open Idealize.ShloMosaic Idealize.ShloMosaic.TcCoe Idealize.SL.Sem
open Cert.KernelIdeal Cert.KernelIdeal.Gen

/-- The batch of a grid point. -/
def batchOf (t : Fin cfg0.N) : Fin 4 := ⟨t.val % 4, by omega⟩

/-- The head pair of a grid point. -/
def pairOf (t : Fin cfg0.N) : Fin 8 := ⟨t.val / 4 % 8, by omega⟩

theorem index_query : ∀ t : Fin cfg0.N, win0_0.index t = ![(batchOf t).val, 0, (pairOf t).val] :=
  (by decide +kernel : ∀ t : Fin grid0.N, _)
theorem index_key : ∀ t : Fin cfg0.N, win0_1.index t = ![(batchOf t).val, 0, 8 + (pairOf t).val] :=
  (by decide +kernel : ∀ t : Fin grid0.N, _)
theorem index_value : ∀ t : Fin cfg0.N, win0_2.index t = ![(batchOf t).val, 0, 16 + (pairOf t).val] :=
  (by decide +kernel : ∀ t : Fin grid0.N, _)
theorem index_bias : ∀ t : Fin cfg0.N, win0_3.index t = ![(pairOf t).val, 0, 0, 0] :=
  (by decide +kernel : ∀ t : Fin grid0.N, _)
theorem index_out : ∀ t : Fin cfg0.N, win0_4.index t = ![(batchOf t).val, 0, (pairOf t).val] :=
  (by decide +kernel : ∀ t : Fin grid0.N, _)

variable (m : (ℓ : Loc nD τ sig) → Buf (Elt Ideal) ℓ) (c : Dev nD)

/-- The queries in memory. -/
abbrev queries : Tokens := m ((c : Thread nD τ).loc main_arg0)

/-- The keys in memory. -/
abbrev keys : Tokens := m ((c : Thread nD τ).loc main_arg1)

/-- The values in memory. -/
abbrev values : Tokens := m ((c : Thread nD τ).loc main_arg2)

/-- The bias in memory. -/
abbrev bias : Bias := m ((c : Thread nD τ).loc main_arg3)

theorem block_query (t : Fin cfg0.N) (n : Fin 4096) (l : Fin 128) :
    (iblk m c 0 t : Vec Ideal S1x4096x128 .bf16) (ix3 0 n l)
      = (queries m c) (ix3 (batchOf t) n (chanOf (pairOf t) l)) * ((1 / 8 / Real.log 2 : ℝ) : EReal) := by
  have e : (iblk m c 0 t : Vec Ideal S1x4096x128 .bf16) (ix3 0 n l)
      = V m c main_v6 (ix3 (batchOf t) n ⟨(chanOf (pairOf t) l).val, by have := (chanOf (pairOf t) l).isLt; omega⟩) := by
    blk_simp [iblk]
    congr 1
    blk_ext [index_query t, chanOf]
  rw [e, V_qkv, qkv_query]

theorem block_key (t : Fin cfg0.N) (n : Fin 4096) (l : Fin 128) :
    (iblk m c 1 t : Vec Ideal S1x4096x128 .bf16) (ix3 0 n l)
      = (keys m c) (ix3 (batchOf t) n (chanOf (pairOf t) l)) := by
  have e : (iblk m c 1 t : Vec Ideal S1x4096x128 .bf16) (ix3 0 n l)
      = V m c main_v6 (ix3 (batchOf t) n ⟨1024 + (chanOf (pairOf t) l).val, by have := (chanOf (pairOf t) l).isLt; omega⟩) := by
    blk_simp [iblk]
    congr 1
    blk_ext [index_key t, chanOf]
  rw [e, V_qkv, qkv_key]

theorem block_value (t : Fin cfg0.N) (n : Fin 4096) (l : Fin 128) :
    (iblk m c 2 t : Vec Ideal S1x4096x128 .bf16) (ix3 0 n l)
      = (values m c) (ix3 (batchOf t) n (chanOf (pairOf t) l)) := by
  have e : (iblk m c 2 t : Vec Ideal S1x4096x128 .bf16) (ix3 0 n l)
      = V m c main_v6 (ix3 (batchOf t) n ⟨2048 + (chanOf (pairOf t) l).val, by have := (chanOf (pairOf t) l).isLt; omega⟩) := by
    blk_simp [iblk]
    congr 1
    blk_ext [index_value t, chanOf]
  rw [e, V_qkv, qkv_value]

theorem block_bias (t : Fin cfg0.N) (d : Fin 14) (R j : Fin 128) :
    (iblk m c 3 t : Vec Ideal S1x14x128x128 .f32) (ix4 0 d R j)
      = biasTable (bias m c) (ix4 (pairOf t) d R j) := by
  have e : (iblk m c 3 t : Vec Ideal S1x14x128x128 .f32) (ix4 0 d R j) = V m c main_v48 (ix4 (pairOf t) d R j) := by
    blk_simp [iblk]
    congr 1
    blk_ext [index_bias t]
  rw [e, V_bias]

/-- The neighbourhood attention as one array. -/
def result (q k v : Tokens) (rpb : Bias) : Tokens := fun i =>
  nbAttn q k v rpb (i 0) ⟨(i 2).val / 64, by have : (i 2).val < 1024 := (i 2).isLt; omega⟩ (i 1)
    ⟨(i 2).val % 64, by omega⟩

theorem kernel_out (hq : AllReal (queries m c))
    (hk : AllReal (keys m c)) (hr : AllReal (bias m c)) :
    (dats m 0 c).arrAt 4 cfg0.N = result (queries m c) (keys m c)
      (values m c) (bias m c) := by
  refine (dats m 0 c).arrAt_eq_of_covers 4 _ (by decide +kernel) fun t hf y => ?_
  blk_simp
  rw [after0_4]
  unfold outsAt0
  rw [out_eq]
  idx_vars y
  have e : ((View.whole main_v49).slice (win0_4.rect t)).emb (ix3 y0 y1 y2)
      = ix3 (batchOf t) y1 (chanOf (pairOf t) y2) := by
    blk_ext [index_out t, chanOf]
  rw [e]
  have h0 : y0 = 0 := Subsingleton.elim _ _
  subst h0
  refine (block_at (queries m c) (keys m c) (values m c) (bias m c) hq hk hr _ _ _ _ (batchOf t) (pairOf t)
    (block_query m c t) (block_key m c t) (block_value m c t) (block_bias m c t) y1 y2).trans ?_
  have e1 : headOf (pairOf t) y2 = ⟨(chanOf (pairOf t) y2).val / 64, by have := (chanOf (pairOf t) y2).isLt; omega⟩ :=
    Fin.ext (by simp only [headOf, chanOf]; omega)
  have e2 : (⟨y2.val % 64, by omega⟩ : Fin 64) = ⟨(chanOf (pairOf t) y2).val % 64, by omega⟩ :=
    Fin.ext (by simp only [chanOf]; omega)
  rw [e1, e2]
  rfl

end Cert.NA
-- ==== Proof.NA.RefWords.lean ====
module

public import proofs.«01_k».proof.Proof.Gen.ReferenceIdeal.Read
public import proofs.«01_k».proof.Proof.NA.Spec

@[expose] public section

set_option maxRecDepth 16384

noncomputable section

namespace Cert.NA

open Idealize.ShloMosaic
open Cert.ReferenceIdeal Cert.ReferenceIdeal.Gen Cert.ReferenceIdeal.Read

theorem refRow_at : ∀ a b : Fin 64, val_main_v24 (F := Ideal) (ix2 a b) = BitVec.ofBool (rowIn a b) := by decide +kernel

theorem refCol_at : ∀ a b : Fin 64, val_main_v50 (F := Ideal) (ix2 a b) = BitVec.ofBool (colIn a b) := by decide +kernel

theorem refRowOff_at : ∀ a b : Fin 64, rowIn a b = true → val_main_v31 (F := Ideal) (ix2 a b) = BitVec.ofNat 32 (rowOff a b).val := by
  decide +kernel

theorem refColOff_at : ∀ a b : Fin 64, colIn a b = true → val_main_v57 (F := Ideal) (ix2 a b) = BitVec.ofNat 32 (colOff a b).val := by
  decide +kernel

theorem offset_word : ∀ (x : Fin 15) (y : Fin 31),
    (IntOp.addi (IntOp.muli (BitVec.ofNat 32 x.val) 31#32) (BitVec.ofNat 32 y.val)).toInt.toNat = 31 * x.val + y.val := by
  decide +kernel

end Cert.NA
-- ==== Proof.NA.RefMax.lean ====
module

public import proofs.«01_k».proof.Proof.Gen.ReferenceIdeal.Read
public import proofs.«01_k».proof.Proof.NA.Gather
public import proofs.«01_k».proof.Proof.NA.RefWords
public import Idealize.ShloMosaic.Lib.Pipeline.ValueKit
public import Idealize.ShloMosaic.Lib.Pointwise

@[expose] public section

set_option maxRecDepth 16384

noncomputable section

namespace Cert.NA

open Idealize.ShloMosaic Idealize.ShloMosaic.TcCoe Idealize.SL.Sem
open Cert.ReferenceIdeal Cert.ReferenceIdeal.Gen Cert.ReferenceIdeal.Read

theorem max_row (y : FVec Ideal S4x16x4096x4096 .f32) (z : FVec Ideal S_ .f32) (b : Fin 4) (h : Fin 16) (n : Fin 4096) :
    (Host.reduce FloatOps.maximumf y z reducesTo_S4x16x4096x4096_S4x16x4096_d3 h_S_ : FVec Ideal S4x16x4096 .f32) (ix3 b h n)
      = (Finset.univ.fold max (z ix0) fun m : Fin 4096 => y (ix4 b h n m) : EReal) := by
  pointwise
  rw [show Shape.Idx.first (s := S_) h_S_ = ix0 from funext fun a => a.elim0]

theorem idx_max (b : Fin 4) (h : Fin 16) (n m : Fin 4096) : idx_main_v84 (idx_main_v85 (ix4 b h n m)) = ix3 b h n := by
  funext a
  match a with
  | ⟨0, _⟩ => rfl
  | ⟨1, _⟩ => rfl
  | ⟨2, _⟩ => rfl

theorem ref_max (q k : Vec Ideal S4x4096x1024 .f32) (rpb : Vec Ideal S16x15x31 .f32) (b : Fin 4) (h : Fin 16) (n m : Fin 4096) :
    val_main_v85 (F := Ideal) q k rpb (ix4 b h n m)
      = Finset.univ.fold max ⊥ fun m => val_main_v80 (F := Ideal) q k rpb (ix4 b h n m) := by
  rw [val_main_v85_apply, val_main_v84_apply, val_main_v83_apply, val_main_v82_apply, val_main_cst_12_apply, idx_max]
  unfold val_main_v81
  generalize val_main_v80 (F := Ideal) q k rpb = y
  rw [max_row, val_main_cst_11_apply]
  generalize hM : Finset.fold max (FloatOps.ofBits (F := Ideal) .f32 0xFF800000#32) (fun m : Fin 4096 => y (ix4 b h n m)) Finset.univ = M
  have e : FloatOps.ofBits (F := Ideal) .f32 0xFF800000#32 = (⊥ : EReal) := ofBits_negInf
  rw [e] at hM ⊢
  rw [hM]
  exact max_eq_right (bot_le (a := (M : EReal)))

end Cert.NA
-- ==== Proof.NA.RefRead.lean ====
module

public import proofs.«01_k».proof.Proof.Gen.ReferenceIdeal.Read
public import proofs.«01_k».proof.Proof.NA.Gather
public import proofs.«01_k».proof.Proof.NA.RefWords
public import proofs.«01_k».proof.Proof.NA.RefMax
public import Idealize.ShloMosaic.Lib.Pipeline.ValueKit
public import Idealize.ShloMosaic.Lib.Pointwise

@[expose] public section

set_option maxRecDepth 16384

noncomputable section

namespace Cert.NA

open Idealize.ShloMosaic Idealize.ShloMosaic.TcCoe Idealize.SL.Sem
open Cert.ReferenceIdeal Cert.ReferenceIdeal.Gen Cert.ReferenceIdeal.Read

theorem ref_qk (q k : Vec Ideal S4x4096x1024 .f32) (hq : AllReal q) (hk : AllReal k) (b : Fin 4) (h : Fin 16) (n m : Fin 4096) :
    val_main_v76 (F := Ideal) q k (ix4 b h n m)
      = (((∑ d : Fin 64, (q (ix3 b n (chan h d))).toReal * (k (ix3 b m (chan h d))).toReal) * (1 / 8) : ℝ) : EReal) := by
  pointwise [val_main_v76, val_main_v75, val_main_v74, val_main_v1, val_main_v3, val_main_v0, val_main_v2, val_main_cst]
  rw [ofBits_eighth, EReal.coe_mul, ← sum_coe]
  congr 1
  refine Finset.sum_congr rfl fun d _ => ?_
  rw [EReal.coe_mul, ← hq, ← hk]
  rfl

theorem ref_inside (b : Fin 4) (h : Fin 16) (n m : Fin 4096) :
    val_main_call1_v1 (F := Ideal) (ix4 b h n m) = BitVec.ofBool (inWindow n m) := by
  pointwise [val_main_call1_v1, val_main_v63, val_main_v62, val_main_v61, val_main_v60, val_main_v59, val_main_v58]
  rw [refRow_at, refCol_at]
  change IntOp.andi (BitVec.ofBool (rowIn (rowOf n) (rowOf m))) (BitVec.ofBool (colIn (colOf n) (colOf m))) = _
  unfold inWindow
  generalize rowIn (rowOf n) (rowOf m) = x
  generalize colIn (colOf n) (colOf m) = y
  cases x <;> cases y <;> rfl

theorem ref_offset (n m : Fin 4096) (h : inWindow n m = true) :
    (val_main_v71 (F := Ideal) (ix2 n m)).toInt.toNat
      = 31 * (rowOff (rowOf n) (rowOf m)).val + (colOff (colOf n) (colOf m)).val := by
  unfold inWindow at h
  simp only [Bool.and_eq_true] at h
  pointwise [val_main_v71, val_main_v70, val_main_v69, val_main_v68, val_main_v67, val_main_v66, val_main_v65, val_main_v64, val_main_c_9]
  have e1 : val_main_v31 (F := Ideal) (ix2 ⟨n.val / 64, by omega⟩ ⟨m.val / 64, by omega⟩) = _ := refRowOff_at (rowOf n) (rowOf m) h.1
  have e2 : val_main_v57 (F := Ideal) (ix2 ⟨n.val % 64, by omega⟩ ⟨m.val % 64, by omega⟩) = _ := refColOff_at (colOf n) (colOf m) h.2
  rw [e1, e2]
  exact offset_word _ _

theorem ref_bias (rpb : Vec Ideal S16x15x31 .f32) (b : Fin 4) (h : Fin 16) (n m : Fin 4096) (hv : inWindow n m = true) :
    val_main_v77 (F := Ideal) rpb (ix4 0 h n m)
      = rpb (ix3 h (rowOff (rowOf n) (rowOf m)) (colOff (colOf n) (colOf m))) := by
  pointwise [val_main_v77]
  unfold val_main_v73
  rw [gather_bias]
  pointwise [val_main_v72, val_main_call0_v0]
  have e := ref_offset n m hv
  have h1 := (rowOff (rowOf n) (rowOf m)).isLt
  have h2 := (colOff (colOf n) (colOf m)).isLt
  congr 2
  · exact Fin.ext (by show min (val_main_v71 (F := Ideal) (ix2 n m)).toInt.toNat 464 / 31 = _; rw [e]; omega)
  · exact Fin.ext (by show min (val_main_v71 (F := Ideal) (ix2 n m)).toInt.toNat 464 % 31 = _; rw [e]; omega)

theorem ref_outside (b : Fin 4) (h : Fin 16) (n m : Fin 4096) :
    val_main_call1_v2 (F := Ideal) (ix4 b h n m) = (⊥ : EReal) := by
  pointwise [val_main_call1_v2, val_main_call1_v0, val_main_cst_10]
  exact ofBits_negInf

theorem ref_scores (q k : Vec Ideal S4x4096x1024 .f32) (rpb : Vec Ideal S16x15x31 .f32) (hq : AllReal q) (hk : AllReal k)
    (hr : AllReal rpb) (b : Fin 4) (h : Fin 16) (n m : Fin 4096) :
    val_main_v80 (F := Ideal) q k rpb (ix4 b h n m)
      = if inWindow n m then ((score q k rpb b h n m : ℝ) : EReal) else ⊥ := by
  pointwise [val_main_v80, val_main_v79, val_main_v78]
  rw [ref_inside, ref_outside]
  by_cases hv : inWindow n m = true
  · rw [hv, ref_qk q k hq hk, ref_bias rpb b h n m hv, if_pos rfl]
    show _ = _
    unfold score
    rw [EReal.coe_add, ← hr]
    rfl
  · rw [Bool.not_eq_true] at hv
    rw [hv]
    rfl

theorem ref_exp (q k : Vec Ideal S4x4096x1024 .f32) (rpb : Vec Ideal S16x15x31 .f32) (b : Fin 4) (h : Fin 16) (n m : Fin 4096) :
    val_main_v87 (F := Ideal) q k rpb (ix4 b h n m)
      = Ideal.exp (val_main_v80 (F := Ideal) q k rpb (ix4 b h n m)
          - Finset.univ.fold max ⊥ fun m => val_main_v80 (F := Ideal) q k rpb (ix4 b h n m)) := by
  rw [← ref_max q k rpb b h n m]
  pointwise [val_main_v87, val_main_v86]

theorem ref_sum (q k : Vec Ideal S4x4096x1024 .f32) (rpb : Vec Ideal S16x15x31 .f32) (b : Fin 4) (h : Fin 16) (n m : Fin 4096) :
    val_main_v90 (F := Ideal) q k rpb (ix4 b h n m) = ∑ j, val_main_v87 (F := Ideal) q k rpb (ix4 b h n j) := by
  pointwise [val_main_v90, val_main_v89, val_main_v88, val_main_cst_13]

theorem ref_out (q k v : Vec Ideal S4x4096x1024 .f32) (rpb : Vec Ideal S16x15x31 .f32) (hq : AllReal q) (hk : AllReal k)
    (hr : AllReal rpb) (b : Fin 4) (n : Fin 4096) (h : Fin 16) (d : Fin 64) :
    val_main_v95 (F := Ideal) q k v rpb (ix3 b n (chan h d)) = nbAttn q k v rpb b h n d := by
  have e1 : (⟨(chan h d).val / 64, by have := (chan h d).isLt; omega⟩ : Fin 16) = h :=
    Fin.ext (by show (h.val * 64 + d.val) / 64 = h.val; omega)
  have e2 : (⟨(chan h d).val % 64, by omega⟩ : Fin 64) = d :=
    Fin.ext (by show (h.val * 64 + d.val) % 64 = d.val; omega)
  have step : val_main_v95 (F := Ideal) q k v rpb (ix3 b n (chan h d))
      = ∑ m, Ideal.div (val_main_v87 q k rpb (ix4 b h n m)) (val_main_v90 q k rpb (ix4 b h n m)) * v (ix3 b m (chan h d)) := by
    pointwise [val_main_v95, val_main_v94, val_main_v93, val_main_v92, val_main_v91, val_main_v5, val_main_v4]
    rw [e1]
  rw [step]
  unfold nbAttn
  rw [← reference_attn (inWindow n) (score q k rpb b h n) (fun m => v (ix3 b m (chan h d)))
    (fun m => val_main_v80 (F := Ideal) q k rpb (ix4 b h n m)) n (inWindow_self n) (ref_scores q k rpb hq hk hr b h n)]
  simp only [ref_sum, ref_exp]

end Cert.NA
-- ==== Proof.NA.Finite.lean ====
module

public import proofs.«01_k».proof.Pre_finite_scores
public import proofs.«01_k».proof.Proof.NA.Spec
public import Idealize.ShloMosaic.Lib.ReduceAll

@[expose] public section

noncomputable section

namespace Cert.NA

open Idealize.ShloMosaic
open Cert.Pre_finite_scores

instance : Subsingleton S_.Idx := ⟨fun a b => funext fun x => x.elim0⟩

theorem ofBits_posInf : Ideal.ofBits .f32 0x7F800000#32 = (⊤ : EReal) := by
  simp [Ideal.ofBits, Ideal.ieee]

theorem andi_one (a b : BitVec 1) (h : IntOp.andi a b = 1#1) : a = 1#1 ∧ b = 1#1 := by
  revert a b; decide

/-- An entry strictly between the two infinities is a real number. -/
theorem real_of_between {S : Shape} (x : FVec Ideal S .f32) (h : S_.BroadcastsInDim S (![] : Fin 0 → Fin S.rank)) (i : S.Idx)
    (e : andi (cmpf .ogt x (broadcastInDim S ![] h (constant S_ .f32 0xFF800000#32)))
      (cmpf .olt x (broadcastInDim S ![] h (constant S_ .f32 0x7F800000#32))) i = 1#1) : x i = ((x i).toReal : EReal) := by
  obtain ⟨e1, e2⟩ := andi_one _ _ e
  change BitVec.ofBool (decide (x i > Ideal.ofBits .f32 0xFF800000#32)) = 1#1 at e1
  change BitVec.ofBool (decide (x i < Ideal.ofBits .f32 0x7F800000#32)) = 1#1 at e2
  rw [ofBits_negInf] at e1
  rw [ofBits_posInf] at e2
  have h1 : x i ≠ ⊥ := fun hh => by rw [hh] at e1; simp at e1
  have h2 : x i ≠ ⊤ := fun hh => by rw [hh] at e2; simp at e2
  exact (EReal.coe_toReal h2 h1).symm

variable [Facts]

/-- The precondition says that the queries, the keys and the bias hold real numbers. -/
theorem real_of_pre (q k v : FVec Ideal S4x4096x1024 .f32) (rpb : FVec Ideal S16x15x31 .f32)
    (e : fn q k v rpb = fun _ => 1#1) : AllReal q ∧ AllReal k ∧ AllReal rpb := by
  have e0 := congrFun e ix0
  unfold fn fn_part1 at e0
  dsimp only at e0
  obtain ⟨e12, e3⟩ := andi_one _ _ e0
  obtain ⟨e1, e2⟩ := andi_one _ _ e12
  exact ⟨fun i => real_of_between q _ i (Host.reduce_andi_all _ _ _ _ ix0 e1 i),
    fun i => real_of_between k _ i (Host.reduce_andi_all _ _ _ _ ix0 e2 i),
    fun i => real_of_between rpb _ i (Host.reduce_andi_all _ _ _ _ ix0 e3 i)⟩

end Cert.NA
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.EX.FrameBits
public import proofs.«01_k».proof.Proof.EX.RangeBits
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.EX.FrameIdeal
public import proofs.«01_k».proof.Proof.EX.RangeIdeal
public import proofs.«01_k».proof.Proof.EX.Kernel
public import proofs.«01_k».proof.Proof.EX.RefExperts
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseIdeal.Value
public import proofs.«01_k».proof.Proof.Gen.DenseReferenceIdeal
public import proofs.«01_k».proof.Proof.Gen.DenseReferenceIdeal.Run
public import proofs.«01_k».proof.Proof.Gen.DenseReferenceIdeal.Read
public import proofs.«01_k».proof.Proof.DN.RefRead
public import proofs.«01_k».proof.Proof.NA.KernelOut
public import proofs.«01_k».proof.Proof.NA.RefRead
public import proofs.«01_k».proof.Proof.NA.Finite
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem Cert.Kernel

/-- The precondition's own side conditions. -/
instance preFacts : Cert.Pre_finite_scores.Facts := by
  constructor <;> decide +kernel

/-- The reference's frame: it owns no semaphore, and its run leaves the arguments alone. -/
theorem reference_frame : Cert.quiescent_ReferenceIdeal (hReferenceIdeal := Cert.ReferenceIdeal.Gen.facts) := by
  intro m g _
  refine θ_run_mono (Cert.ReferenceIdeal.Value.run m g) fun r h => ⟨fun c => ?_, sem_eq_zero_of_no_sems (by decide) _⟩
  exact ⟨(h c).2.1, (h c).2.2.1, (h c).2.2.2.1, (h c).2.2.2.2⟩

/-- The reference's result, as one array. -/
theorem reference_out (q k v : Cert.NA.Tokens) (rpb : Cert.NA.Bias) (hq : Cert.NA.AllReal q) (hk : Cert.NA.AllReal k)
    (hr : Cert.NA.AllReal rpb) :
    Cert.ReferenceIdeal.Read.val_main_v95 (F := Ideal) q k v rpb = Cert.NA.result q k v rpb := by
  funext i
  idx_vars i
  have e : i2 = Cert.NA.chan ⟨i2.val / 64, by have := i2.isLt; omega⟩ ⟨i2.val % 64, by omega⟩ :=
    Fin.ext (by show i2.val = i2.val / 64 * 64 + i2.val % 64; omega)
  refine (congrArg (fun x => Cert.ReferenceIdeal.Read.val_main_v95 (F := Ideal) q k v rpb (ix3 i0 i1 x)) e).trans ?_
  exact Cert.NA.ref_out q k v rpb hq hk hr i0 i1 _ _

/-- Over the reals, with finite queries, keys and bias, the kernel and the reference end with the same array. -/
theorem same_result : Cert.algebraic_KernelIdeal_ReferenceIdeal_pre_finite_scores (hKernelIdeal := Cert.KernelIdeal.Gen.facts)
    (hReferenceIdeal := Cert.ReferenceIdeal.Gen.facts) (hPre_finite_scores := preFacts) := by
  intro m g m' g' hpre hagree
  have real : ∀ c, Cert.NA.AllReal (Cert.NA.queries m c) ∧ Cert.NA.AllReal (Cert.NA.keys m c) ∧ Cert.NA.AllReal (Cert.NA.bias m c) :=
    fun c => Cert.NA.real_of_pre _ _ _ _ (hpre c)
  refine ⟨fun c => Cert.NA.result (Cert.NA.queries m c) (Cert.NA.keys m c) (Cert.NA.values m c) (Cert.NA.bias m c), ?_, ?_⟩
  · refine θ_run_mono (Cert.KernelIdeal.Value.run_blocks m g) fun r h c => ?_
    obtain ⟨hq, hk, hr⟩ := real c
    exact ⟨(h c).1.trans (Cert.NA.kernel_out m c hq hk hr), (h c).2⟩
  · refine θ_run_mono (Cert.ReferenceIdeal.Value.run m' g') fun r h c => ?_
    obtain ⟨hq, hk, hr⟩ := real c
    refine ⟨(h c).1.trans ?_, (h c).2⟩
    rw [Cert.ReferenceIdeal.Read.val_main_v95_eq, (hagree c).1, (hagree c).2.1, (hagree c).2.2.1, (hagree c).2.2.2]
    exact reference_out _ _ _ _ hq hk hr

/-- The experts' reference's frame, as `reference_frame`. -/
theorem experts_reference_frame :
    Cert.quiescent_ExpertsReferenceIdeal (hExpertsReferenceIdeal := Cert.ExpertsReferenceIdeal.Gen.facts) := by
  intro m g _
  exact θ_run_mono (Cert.ExpertsReferenceIdeal.Value.run m g) fun r h => ⟨fun c => (h c).2, sem_eq_zero_of_no_sems (by decide) _⟩

/-- Over the reals the call of the experts and their reference end with the same array, from any arguments. -/
theorem experts_same_result : Cert.algebraic_ExpertsIdeal_ExpertsReferenceIdeal (hExpertsIdeal := Cert.ExpertsIdeal.Gen.facts)
    (hExpertsReferenceIdeal := Cert.ExpertsReferenceIdeal.Gen.facts) := by
  intro m g m' g' _ hagree
  refine ⟨fun c => Cert.EX.kernelResult m c, ?_, ?_⟩
  · refine θ_run_mono (θ_run_and (Cert.ExpertsIdeal.Gen.run_main m g (Cert.EX.Ideal.ok m))
      (Cert.ExpertsIdeal.Gen.unchanged m g (Cert.EX.Ideal.ok m))) fun r h c => ⟨?_, h.2 c⟩
    exact ((h.1 c).1 5).trans (Cert.EX.kernel_out m c (Cert.EX.Ideal.ok m))
  · refine θ_run_mono (Cert.ExpertsReferenceIdeal.Value.run m' g') fun r h c => ⟨(h c).1.trans ?_, (h c).2⟩
    obtain ⟨h0, h1, h2, h3, h4, h5⟩ := hagree c
    refine (Cert.ExpertsReferenceIdeal.Read.val_main_v150_eq (StableHlo.launchContents m' c)).trans ?_
    refine (Cert.EX.ref_result _ _ _ _ _ _).trans ?_
    show Cert.EX.result (m' ((c.tc : Thread Cert.ExpertsReferenceIdeal.nD Cert.ExpertsReferenceIdeal.τ).loc Cert.ExpertsReferenceIdeal.main_arg0))
      (m' ((c.tc : Thread Cert.ExpertsReferenceIdeal.nD Cert.ExpertsReferenceIdeal.τ).loc Cert.ExpertsReferenceIdeal.main_arg1))
      (m' ((c.tc : Thread Cert.ExpertsReferenceIdeal.nD Cert.ExpertsReferenceIdeal.τ).loc Cert.ExpertsReferenceIdeal.main_arg2))
      (m' ((c.tc : Thread Cert.ExpertsReferenceIdeal.nD Cert.ExpertsReferenceIdeal.τ).loc Cert.ExpertsReferenceIdeal.main_arg3))
      (m' ((c.tc : Thread Cert.ExpertsReferenceIdeal.nD Cert.ExpertsReferenceIdeal.τ).loc Cert.ExpertsReferenceIdeal.main_arg4))
      (m' ((c.tc : Thread Cert.ExpertsReferenceIdeal.nD Cert.ExpertsReferenceIdeal.τ).loc Cert.ExpertsReferenceIdeal.main_arg5)) = _
    rw [h0, h1, h2, h3, h4, h5]

/-- The dense reference's frame, as `reference_frame`. -/
theorem dense_reference_frame :
    Cert.quiescent_DenseReferenceIdeal (hDenseReferenceIdeal := Cert.DenseReferenceIdeal.Gen.facts) := by
  intro m g _
  exact θ_run_mono (Cert.DenseReferenceIdeal.Value.run m g) fun r h => ⟨fun c => (h c).2, sem_eq_zero_of_no_sems (by decide) _⟩

/-- Over the reals the dense call and its reference end with the same array, from any arguments. -/
theorem dense_same_result : Cert.algebraic_DenseIdeal_DenseReferenceIdeal (hDenseIdeal := Cert.DenseIdeal.Gen.facts)
    (hDenseReferenceIdeal := Cert.DenseReferenceIdeal.Gen.facts) := by
  intro m g m' g' _ hagree
  refine ⟨fun c => Cert.DN.result (Cert.DN.rowsM m c) (Cert.DN.attnM m c) (Cert.DN.projM m c) (Cert.DN.scaleM m c)
    (Cert.DN.gateM m c) (Cert.DN.upM m c) (Cert.DN.downM m c), ?_, ?_⟩
  · exact θ_run_mono (Cert.DenseIdeal.Value.run_blocks m g) fun r h c => ⟨(h c).1.trans (Cert.DN.kernel_out m c), (h c).2.2.2.2⟩
  · refine θ_run_mono (Cert.DenseReferenceIdeal.Value.run m' g') fun r h c => ⟨(h c).1.trans ?_, (h c).2⟩
    obtain ⟨h0, h1, h2, h3, h4, h5, h6, _⟩ := hagree c
    rw [Cert.DenseReferenceIdeal.Read.val_main_v20_eq, h0, h1, h2, h3, h4, h5, h6]
    exact Cert.DN.ref_result _ _ _ _ _ _ _

theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Dense.Gen.facts, Cert.DenseIdeal.Gen.facts, Cert.DenseReferenceIdeal.Gen.facts, preFacts,
  fun m g _ => Cert.Kernel.Gen.frame m g,
  fun m g _ => Cert.KernelIdeal.Gen.frame m g,
  fun m g _ => Cert.KernelIdeal.Gen.frame m g,
  reference_frame,
  fun m g _ => reference_frame m g trivial,
  fun m g _ => Cert.Experts.Gen.frame m g (Cert.EX.Bits.ok m),
  fun m g _ => Cert.ExpertsIdeal.Gen.frame m g (Cert.EX.Ideal.ok m),
  experts_reference_frame,
  fun m g _ => Cert.Dense.Gen.frame m g,
  fun m g _ => Cert.DenseIdeal.Gen.frame m g,
  dense_reference_frame,
  trivial,
  same_result,
  trivial,
  experts_same_result,
  trivial,
  dense_same_result⟩

end Cert.Proof

end
